-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S512x128 : Shape := ⟨2, ![512, 128]⟩
abbrev S512 : Shape := ⟨1, ![512]⟩
abbrev S128x512 : Shape := ⟨2, ![128, 512]⟩
abbrev S_ : Shape := ⟨0, ![]⟩

class Facts : Prop where
  bcast_S_S10000x128 : S_.BroadcastsInDim S10000x128 (![] : Fin 0 → Fin S10000x128.rank)
  bcast_S_S128x128 : S_.BroadcastsInDim S128x128 (![] : Fin 0 → Fin S128x128.rank)

variable [Facts]

def fn {F : FTy → Type} [FloatOps F] (main_arg0 : FVec F S10000x128 .f32) (main_arg1 : IVec S2x320000 32) (main_arg2 : FVec F S128x128 .f32) (main_arg3 : FVec F S128x128 .f32) (main_arg4 : FVec F S128x128 .f32) (main_arg5 : FVec F S128x128 .f32) (main_arg6 : FVec F S128 .f32) (main_arg7 : FVec F S128 .f32) (main_arg8 : FVec F S512x128 .f32) (main_arg9 : FVec F S512 .f32) (main_arg10 : FVec F S128x512 .f32) (main_arg11 : FVec F S128 .f32) (main_arg12 : FVec F S128 .f32) (main_arg13 : FVec F S128 .f32) : IVec S10000x128 1 × IVec S128x128 1 × IVec S128x128 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_v3 : FVec F S128x128 .f32 := Host.absf main_arg2
  let main_cst_0 : FVec F S_ .f32 := constant S_ .f32 0x7F800000#32
  let main_v4 : FVec F S128x128 .f32 := broadcastInDim S128x128 ![] bcast_S_S128x128 main_cst_0
  let main_v5 : IVec S128x128 1 := cmpf .olt main_v3 main_v4
  let main_v6 : FVec F S128x128 .f32 := Host.absf main_arg3
  let main_cst_1 : FVec F S_ .f32 := constant S_ .f32 0x7F800000#32
  let main_v7 : FVec F S128x128 .f32 := broadcastInDim S128x128 ![] bcast_S_S128x128 main_cst_1
  let main_v8 : IVec S128x128 1 := cmpf .olt main_v6 main_v7
  (main_v2, main_v5, main_v8)
-- ==== Kernel.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S512x128 : Shape := ⟨2, ![512, 128]⟩
abbrev S512 : Shape := ⟨1, ![512]⟩
abbrev S128x512 : Shape := ⟨2, ![128, 512]⟩
abbrev S8x128 : Shape := ⟨2, ![8, 128]⟩
abbrev S1x320000 : Shape := ⟨2, ![1, 320000]⟩
abbrev S320000 : Shape := ⟨1, ![320000]⟩
abbrev S1000x128 : Shape := ⟨2, ![1000, 128]⟩
abbrev S_ : Shape := ⟨0, ![]⟩
abbrev S320000x1 : Shape := ⟨2, ![320000, 1]⟩
abbrev S320000x128 : Shape := ⟨2, ![320000, 128]⟩
abbrev S320000x8x16 : Shape := ⟨3, ![320000, 8, 16]⟩
abbrev S320000x8 : Shape := ⟨2, ![320000, 8]⟩
abbrev S10000x8 : Shape := ⟨2, ![10000, 8]⟩
abbrev S320000x8x1 : Shape := ⟨3, ![320000, 8, 1]⟩
abbrev S10000x8x16 : Shape := ⟨3, ![10000, 8, 16]⟩
abbrev S1x128 : Shape := ⟨2, ![1, 128]⟩
abbrev S1x512 : Shape := ⟨2, ![1, 512]⟩
abbrev S1000x8 : Shape := ⟨2, ![1000, 8]⟩
abbrev S1000 : Shape := ⟨1, ![1000]⟩
abbrev S1000x1 : Shape := ⟨2, ![1000, 1]⟩
abbrev S1000x512 : Shape := ⟨2, ![1000, 512]⟩

abbrev nBuf : Space → Nat
  | .hbm => 78
  | .vmem => 29
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S512x128, .f32⟩
  | .hbm, ⟨9, _⟩ => ⟨S512, .f32⟩
  | .hbm, ⟨10, _⟩ => ⟨S128x512, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S8x128, .f32⟩
  | .hbm, ⟨15, _⟩ => ⟨S1x320000, .i32⟩
  | .hbm, ⟨16, _⟩ => ⟨S320000, .i32⟩
  | .hbm, ⟨17, _⟩ => ⟨S1x320000, .i32⟩
  | .hbm, ⟨18, _⟩ => ⟨S320000, .i32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S_, .i32⟩
  | .hbm, ⟨23, _⟩ => ⟨S320000, .i32⟩
  | .hbm, ⟨24, _⟩ => ⟨S320000, .i1⟩
  | .hbm, ⟨25, _⟩ => ⟨S_, .i32⟩
  | .hbm, ⟨26, _⟩ => ⟨S320000, .i32⟩
  | .hbm, ⟨27, _⟩ => ⟨S320000, .i32⟩
  | .hbm, ⟨28, _⟩ => ⟨S320000, .i32⟩
  | .hbm, ⟨29, _⟩ => ⟨S320000x1, .i32⟩
  | .hbm, ⟨30, _⟩ => ⟨S320000x128, .f32⟩
  | .hbm, ⟨31, _⟩ => ⟨S320000x8x16, .f32⟩
  | .hbm, ⟨32, _⟩ => ⟨S_, .i32⟩
  | .hbm, ⟨33, _⟩ => ⟨S320000, .i32⟩
  | .hbm, ⟨34, _⟩ => ⟨S320000, .i1⟩
  | .hbm, ⟨35, _⟩ => ⟨S_, .i32⟩
  | .hbm, ⟨36, _⟩ => ⟨S320000, .i32⟩
  | .hbm, ⟨37, _⟩ => ⟨S320000, .i32⟩
  | .hbm, ⟨38, _⟩ => ⟨S320000, .i32⟩
  | .hbm, ⟨39, _⟩ => ⟨S320000x1, .i32⟩
  | .hbm, ⟨40, _⟩ => ⟨S320000x128, .f32⟩
  | .hbm, ⟨41, _⟩ => ⟨S320000x8x16, .f32⟩
  | .hbm, ⟨42, _⟩ => ⟨S_, .i32⟩
  | .hbm, ⟨43, _⟩ => ⟨S320000, .i32⟩
  | .hbm, ⟨44, _⟩ => ⟨S320000, .i1⟩
  | .hbm, ⟨45, _⟩ => ⟨S_, .i32⟩
  | .hbm, ⟨46, _⟩ => ⟨S320000, .i32⟩
  | .hbm, ⟨47, _⟩ => ⟨S320000, .i32⟩
  | .hbm, ⟨48, _⟩ => ⟨S320000, .i32⟩
  | .hbm, ⟨49, _⟩ => ⟨S320000x1, .i32⟩
  | .hbm, ⟨50, _⟩ => ⟨S320000x128, .f32⟩
  | .hbm, ⟨51, _⟩ => ⟨S320000x8x16, .f32⟩
  | .hbm, ⟨52, _⟩ => ⟨S320000x8x16, .f32⟩
  | .hbm, ⟨53, _⟩ => ⟨S_, .f32⟩
  | .hbm, ⟨54, _⟩ => ⟨S320000x8, .f32⟩
  | .hbm, ⟨55, _⟩ => ⟨S_, .f32⟩
  | .hbm, ⟨56, _⟩ => ⟨S320000x8, .f32⟩
  | .hbm, ⟨57, _⟩ => ⟨S320000x8, .f32⟩
  | .hbm, ⟨58, _⟩ => ⟨S320000x8, .f32⟩
  | .hbm, ⟨59, _⟩ => ⟨S_, .f32⟩
  | .hbm, ⟨60, _⟩ => ⟨S10000x8, .f32⟩
  | .hbm, ⟨61, _⟩ => ⟨S320000x1, .i32⟩
  | .hbm, ⟨62, _⟩ => ⟨S10000x8, .f32⟩
  | .hbm, ⟨63, _⟩ => ⟨S320000x8x1, .f32⟩
  | .hbm, ⟨64, _⟩ => ⟨S320000x8x16, .f32⟩
  | .hbm, ⟨65, _⟩ => ⟨S320000x8x16, .f32⟩
  | .hbm, ⟨66, _⟩ => ⟨S_, .f32⟩
  | .hbm, ⟨67, _⟩ => ⟨S10000x8x16, .f32⟩
  | .hbm, ⟨68, _⟩ => ⟨S320000x1, .i32⟩
  | .hbm, ⟨69, _⟩ => ⟨S10000x8x16, .f32⟩
  | .hbm, ⟨70, _⟩ => ⟨S10000x128, .f32⟩
  | .hbm, ⟨71, _⟩ => ⟨S1x128, .f32⟩
  | .hbm, ⟨72, _⟩ => ⟨S1x128, .f32⟩
  | .hbm, ⟨73, _⟩ => ⟨S1x512, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1000x8, .f32⟩
  | .local _ .vmem, ⟨14, _⟩ => ⟨S1000x8, .f32⟩
  | .local _ .vmem, ⟨15, _⟩ => ⟨S1000x128, .f32⟩
  | .local _ .vmem, ⟨16, _⟩ => ⟨S1000x128, .f32⟩
  | .local _ .vmem, ⟨17, _⟩ => ⟨S128x128, .f32⟩
  | .local _ .vmem, ⟨18, _⟩ => ⟨S1x128, .f32⟩
  | .local _ .vmem, ⟨19, _⟩ => ⟨S1x128, .f32⟩
  | .local _ .vmem, ⟨20, _⟩ => ⟨S512x128, .f32⟩
  | .local _ .vmem, ⟨21, _⟩ => ⟨S1x512, .f32⟩
  | .local _ .vmem, ⟨22, _⟩ => ⟨S128x512, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S8x128, .f32⟩
  | .local _ .vmem, ⟨27, _⟩ => ⟨S1000x128, .f32⟩
  | .local _ .vmem, ⟨28, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4_0 : Ref sig .tc := ⟨.hbm, 19, rfl⟩
abbrev main_v4_1 : Ref sig .tc := ⟨.hbm, 20, rfl⟩
abbrev main_v4_2 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c_1 : Ref sig .tc := ⟨.hbm, 32, rfl⟩
abbrev main_v13 : Ref sig .tc := ⟨.hbm, 33, rfl⟩
abbrev main_v14 : Ref sig .tc := ⟨.hbm, 34, rfl⟩
abbrev main_c_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_cst_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_8 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg11_0 : Ref sig .tc := ⟨.vmem, 25, rfl⟩
abbrev cc1_stg12_0 : Ref sig .tc := ⟨.vmem, 26, rfl⟩
abbrev cc1_stg13_0 : Ref sig .tc := ⟨.vmem, 27, rfl⟩
abbrev cc1_stg13_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem11_0 : DmaSem sig := 25
abbrev cc1_sem12_0 : DmaSem sig := 26
abbrev cc1_sem13_0 : DmaSem sig := 27
abbrev cc1_sem13_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S8x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S1000x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== ReferenceIdeal.lean ====
abbrev S10000x128 : Shape := ⟨2, ![10000, 128]⟩
abbrev S2x320000 : Shape := ⟨2, ![2, 320000]⟩
abbrev S128x128 : Shape := ⟨2, ![128, 128]⟩
abbrev S128 : Shape := ⟨1, ![128]⟩
abbrev S512x128 : Shape := ⟨2, ![512, 128]⟩
abbrev S512 : Shape := ⟨1, ![512]⟩
abbrev S128x512 : Shape := ⟨2, ![128, 512]⟩
abbrev S1x320000 : Shape := ⟨2, ![1, 320000]⟩
abbrev S320000 : Shape := ⟨1, ![320000]⟩
abbrev S10000x8x16 : Shape := ⟨3, ![10000, 8, 16]⟩
abbrev S_ : Shape := ⟨0, ![]⟩
abbrev S320000x1 : Shape := ⟨2, ![320000, 1]⟩
abbrev S320000x8x16 : Shape := ⟨3, ![320000, 8, 16]⟩
abbrev S320000x8 : Shape := ⟨2, ![320000, 8]⟩
abbrev S10000 : Shape := ⟨1, ![10000]⟩
abbrev S10000x1 : Shape := ⟨2, ![10000, 1]⟩
abbrev S10000x320000 : Shape := ⟨2, ![10000, 320000]⟩
abbrev S10000x320000x1 : Shape := ⟨3, ![10000, 320000, 1]⟩
abbrev S1x320000x8 : Shape := ⟨3, ![1, 320000, 8]⟩
abbrev S10000x320000x8 : Shape := ⟨3, ![10000, 320000, 8]⟩
abbrev S10000x8 : Shape := ⟨2, ![10000, 8]⟩
abbrev S320000x8x1 : Shape := ⟨3, ![320000, 8, 1]⟩
abbrev S1x128 : Shape := ⟨2, ![1, 128]⟩
abbrev S10000x512 : Shape := ⟨2, ![10000, 512]⟩
abbrev S1x512 : Shape := ⟨2, ![1, 512]⟩

abbrev nBuf : Space → Nat
  | .hbm => 192
  | .vmem => 0
  | .smem => 0
  | _ => 0

abbrev hbmTy0_0 (i : Nat) : BufTy := match i % 128 with
  | 0 => ⟨S10000x128, .f32⟩
  | 1 => ⟨S2x320000, .i32⟩
  | 2 => ⟨S128x128, .f32⟩
  | 3 => ⟨S128x128, .f32⟩
  | 4 => ⟨S128x128, .f32⟩
  | 5 => ⟨S128x128, .f32⟩
  | 6 => ⟨S128, .f32⟩
  | 7 => ⟨S128, .f32⟩
  | 8 => ⟨S512x128, .f32⟩
  | 9 => ⟨S512, .f32⟩
  | 10 => ⟨S128x512, .f32⟩
  | 11 => ⟨S128, .f32⟩
  | 12 => ⟨S128, .f32⟩
  | 13 => ⟨S128, .f32⟩
  | 14 => ⟨S1x320000, .i32⟩
  | 15 => ⟨S320000, .i32⟩
  | 16 => ⟨S1x320000, .i32⟩
  | 17 => ⟨S320000, .i32⟩
  | 18 => ⟨S128x128, .f32⟩
  | 19 => ⟨S10000x128, .f32⟩
  | 20 => ⟨S10000x8x16, .f32⟩
  | 21 => ⟨S128x128, .f32⟩
  | 22 => ⟨S10000x128, .f32⟩
  | 23 => ⟨S10000x8x16, .f32⟩
  | 24 => ⟨S128x128, .f32⟩
  | 25 => ⟨S10000x128, .f32⟩
  | 26 => ⟨S10000x8x16, .f32⟩
  | 27 => ⟨S_, .i32⟩
  | 28 => ⟨S320000, .i32⟩
  | 29 => ⟨S320000, .i1⟩
  | 30 => ⟨S_, .i32⟩
  | 31 => ⟨S320000, .i32⟩
  | 32 => ⟨S320000, .i32⟩
  | 33 => ⟨S320000, .i32⟩
  | 34 => ⟨S320000x1, .i32⟩
  | 35 => ⟨S320000x8x16, .f32⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S320000x8x16, .f32⟩
  | 45 => ⟨S320000x8x16, .f32⟩
  | 46 => ⟨S_, .f32⟩
  | 47 => ⟨S320000x8, .f32⟩
  | 48 => ⟨S_, .f32⟩
  | 49 => ⟨S320000x8, .f32⟩
  | 50 => ⟨S320000x8, .f32⟩
  | 51 => ⟨S1x320000, .i32⟩
  | 52 => ⟨S10000, .i32⟩
  | 53 => ⟨S10000x1, .i32⟩
  | 54 => ⟨S10000x320000, .i32⟩
  | 55 => ⟨S10000x320000, .i32⟩
  | 56 => ⟨S10000x320000, .i1⟩
  | 57 => ⟨S10000x320000x1, .i1⟩
  | 58 => ⟨S1x320000x8, .f32⟩
  | 59 => ⟨S_, .f32⟩
  | 60 => ⟨S_, .f32⟩
  | 61 => ⟨S10000x320000x8, .i1⟩
  | 62 => ⟨S10000x320000x8, .f32⟩
  | 63 => ⟨S10000x320000x8, .f32⟩
  | 64 => ⟨S10000x320000x8, .f32⟩
  | 65 => ⟨S_, .f32⟩
  | 66 => ⟨S10000x8, .f32⟩
  | 67 => ⟨S10000x8, .f32⟩
  | 68 => ⟨S_, .f32⟩
  | 69 => ⟨S10000x8, .f32⟩
  | 70 => ⟨S10000x8, .i1⟩
  | 71 => ⟨S_, .f32⟩
  | 72 => ⟨S_, .f32⟩
  | 73 => ⟨S10000x8, .f32⟩
  | 74 => ⟨S10000x8, .f32⟩
  | 75 => ⟨S_, .i32⟩
  | 76 => ⟨S320000, .i32⟩
  | 77 => ⟨S320000, .i1⟩
  | 78 => ⟨S_, .i32⟩
  | 79 => ⟨S320000, .i32⟩
  | 80 => ⟨S320000, .i32⟩
  | 81 => ⟨S320000, .i32⟩
  | 82 => ⟨S320000x1, .i32⟩
  | 83 => ⟨S320000x8, .f32⟩
  | 84 => ⟨S320000x8, .f32⟩
  | 85 => ⟨S320000x8, .f32⟩
  | 86 => ⟨S_, .f32⟩
  | 87 => ⟨S10000x8, .f32⟩
  | 88 => ⟨S320000x1, .i32⟩
  | 89 => ⟨S10000x8, .f32⟩
  | 90 => ⟨S_, .i32⟩
  | 91 => ⟨S320000, .i32⟩
  | 92 => ⟨S320000, .i1⟩
  | 93 => ⟨S_, .i32⟩
  | 94 => ⟨S320000, .i32⟩
  | 95 => ⟨S320000, .i32⟩
  | 96 => ⟨S320000, .i32⟩
  | 97 => ⟨S320000x1, .i32⟩
  | 98 => ⟨S320000x8, .f32⟩
  | 99 => ⟨S320000x8, .f32⟩
  | 100 => ⟨S320000x8x1, .f32⟩
  | 101 => ⟨S_, .i32⟩
  | 102 => ⟨S320000, .i32⟩
  | 103 => ⟨S320000, .i1⟩
  | 104 => ⟨S_, .i32⟩
  | 105 => ⟨S320000, .i32⟩
  | 106 => ⟨S320000, .i32⟩
  | 107 => ⟨S320000, .i32⟩
  | 108 => ⟨S320000x1, .i32⟩
  | 109 => ⟨S320000x8x16, .f32⟩
  | 110 => ⟨S320000x8x16, .f32⟩
  | 111 => ⟨S320000x8x16, .f32⟩
  | 112 => ⟨S_, .f32⟩
  | 113 => ⟨S10000x8x16, .f32⟩
  | 114 => ⟨S320000x1, .i32⟩
  | 115 => ⟨S10000x8x16, .f32⟩
  | 116 => ⟨S10000x128, .f32⟩
  | 117 => ⟨S128x128, .f32⟩
  | 118 => ⟨S10000x128, .f32⟩
  | 119 => ⟨S10000x128, .f32⟩
  | 120 => ⟨S_, .f32⟩
  | 121 => ⟨S10000, .f32⟩
  | 122 => ⟨S10000x1, .f32⟩
  | 123 => ⟨S_, .f32⟩
  | 124 => ⟨S10000x1, .f32⟩
  | 125 => ⟨S10000x1, .f32⟩
  | 126 => ⟨S10000x128, .f32⟩
  | 127 => ⟨S10000x128, .f32⟩
  | _ => ⟨S10000x128, .f32⟩

abbrev hbmTy0_1 (i : Nat) : BufTy := match i % 128 with
  | 0 => ⟨S10000x128, .f32⟩
  | 1 => ⟨S_, .f32⟩
  | 2 => ⟨S10000, .f32⟩
  | 3 => ⟨S10000x1, .f32⟩
  | 4 => ⟨S_, .f32⟩
  | 5 => ⟨S10000x1, .f32⟩
  | 6 => ⟨S10000x1, .f32⟩
  | 7 => ⟨S10000x128, .f32⟩
  | 8 => ⟨S10000x128, .f32⟩
  | 9 => ⟨S_, .f32⟩
  | 10 => ⟨S10000x1, .f32⟩
  | 11 => ⟨S10000x1, .f32⟩
  | 12 => ⟨S10000x1, .f32⟩
  | 13 => ⟨S10000x128, .f32⟩
  | 14 => ⟨S10000x128, .f32⟩
  | 15 => ⟨S1x128, .f32⟩
  | 16 => ⟨S10000x128, .f32⟩
  | 17 => ⟨S10000x128, .f32⟩
  | 18 => ⟨S1x128, .f32⟩
  | 19 => ⟨S10000x128, .f32⟩
  | 20 => ⟨S10000x128, .f32⟩
  | 21 => ⟨S128x512, .f32⟩
  | 22 => ⟨S10000x512, .f32⟩
  | 23 => ⟨S1x512, .f32⟩
  | 24 => ⟨S10000x512, .f32⟩
  | 25 => ⟨S10000x512, .f32⟩
  | 26 => ⟨S_, .f32⟩
  | 27 => ⟨S10000x512, .f32⟩
  | 28 => ⟨S10000x512, .f32⟩
  | 29 => ⟨S512x128, .f32⟩
  | 30 => ⟨S10000x128, .f32⟩
  | 31 => ⟨S1x128, .f32⟩
  | 32 => ⟨S10000x128, .f32⟩
  | 33 => ⟨S10000x128, .f32⟩
  | 34 => ⟨S10000x128, .f32⟩
  | 35 => ⟨S_, .f32⟩
  | 36 => ⟨S10000, .f32⟩
  | 37 => ⟨S10000x1, .f32⟩
  | 38 => ⟨S_, .f32⟩
  | 39 => ⟨S10000x1, .f32⟩
  | 40 => ⟨S10000x1, .f32⟩
  | 41 => ⟨S10000x128, .f32⟩
  | 42 => ⟨S10000x128, .f32⟩
  | 43 => ⟨S10000x128, .f32⟩
  | 44 => ⟨S_, .f32⟩
  | 45 => ⟨S10000, .f32⟩
  | 46 => ⟨S10000x1, .f32⟩
  | 47 => ⟨S_, .f32⟩
  | 48 => ⟨S10000x1, .f32⟩
  | 49 => ⟨S10000x1, .f32⟩
  | 50 => ⟨S10000x128, .f32⟩
  | 51 => ⟨S10000x128, .f32⟩
  | 52 => ⟨S_, .f32⟩
  | 53 => ⟨S10000x1, .f32⟩
  | 54 => ⟨S10000x1, .f32⟩
  | 55 => ⟨S10000x1, .f32⟩
  | 56 => ⟨S10000x128, .f32⟩
  | 57 => ⟨S10000x128, .f32⟩
  | 58 => ⟨S1x128, .f32⟩
  | 59 => ⟨S10000x128, .f32⟩
  | 60 => ⟨S10000x128, .f32⟩
  | 61 => ⟨S1x128, .f32⟩
  | 62 => ⟨S10000x128, .f32⟩
  | 63 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_1 : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_4 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_v39 : Ref sig .tc := ⟨.hbm, 64, rfl⟩
abbrev main_cst_5 : Ref sig .tc := ⟨.hbm, 65, rfl⟩
abbrev main_v40 : Ref sig .tc := ⟨.hbm, 66, rfl⟩
abbrev main_v41 : Ref sig .tc := ⟨.hbm, 67, rfl⟩
abbrev main_cst_6 : Ref sig .tc := ⟨.hbm, 68, rfl⟩
abbrev main_v42 : Ref sig .tc := ⟨.hbm, 69, rfl⟩
abbrev main_v43 : Ref sig .tc := ⟨.hbm, 70, rfl⟩
abbrev main_cst_7 : Ref sig .tc := ⟨.hbm, 71, rfl⟩
abbrev main_call1_v0 : Ref sig .tc := ⟨.hbm, 72, rfl⟩
abbrev main_call1_v1 : Ref sig .tc := ⟨.hbm, 73, rfl⟩
abbrev main_v44 : Ref sig .tc := ⟨.hbm, 74, rfl⟩
abbrev main_c_8 : Ref sig .tc := ⟨.hbm, 75, rfl⟩
abbrev main_v45 : Ref sig .tc := ⟨.hbm, 76, rfl⟩
abbrev main_v46 : Ref sig .tc := ⟨.hbm, 77, rfl⟩
abbrev main_c_9 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_10 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_c_11 : Ref sig .tc := ⟨.hbm, 90, rfl⟩
abbrev main_v57 : Ref sig .tc := ⟨.hbm, 91, rfl⟩
abbrev main_v58 : Ref sig .tc := ⟨.hbm, 92, rfl⟩
abbrev main_c_12 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_c_13 : Ref sig .tc := ⟨.hbm, 101, rfl⟩
abbrev main_v66 : Ref sig .tc := ⟨.hbm, 102, rfl⟩
abbrev main_v67 : Ref sig .tc := ⟨.hbm, 103, rfl⟩
abbrev main_c_14 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_15 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_16 : Ref sig .tc := ⟨.hbm, 120, rfl⟩
abbrev main_v82 : Ref sig .tc := ⟨.hbm, 121, rfl⟩
abbrev main_v83 : Ref sig .tc := ⟨.hbm, 122, rfl⟩
abbrev main_cst_17 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_18 : Ref sig .tc := ⟨.hbm, 129, rfl⟩
abbrev main_v89 : Ref sig .tc := ⟨.hbm, 130, rfl⟩
abbrev main_v90 : Ref sig .tc := ⟨.hbm, 131, rfl⟩
abbrev main_cst_19 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_20 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_21 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_cst_22 : Ref sig .tc := ⟨.hbm, 163, rfl⟩
abbrev main_v119 : Ref sig .tc := ⟨.hbm, 164, rfl⟩
abbrev main_v120 : Ref sig .tc := ⟨.hbm, 165, rfl⟩
abbrev main_cst_23 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_cst_24 : Ref sig .tc := ⟨.hbm, 172, rfl⟩
abbrev main_v126 : Ref sig .tc := ⟨.hbm, 173, rfl⟩
abbrev main_v127 : Ref sig .tc := ⟨.hbm, 174, rfl⟩
abbrev main_cst_25 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_cst_26 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩

abbrev nD : Nat := 1
abbrev τ : Topo := Topo.v7x

variable {F : FTy → Type} [FloatOps F]
-- ==== Proof.KernelIdealLaunch.lean ====
/-
  The launch set-up of the program `KernelIdeal`: the layout facts of its two pipelines, the points of their grids, their
  windows and buffers enumerated, and @main as a chain of host operations and pipelines.
-/
module

public import proofs.«01_k».proof.Proof.Gen.KernelIdeal
public import Idealize.ShloMosaic.Lib.Pipeline.Kit
public import Idealize.ShloMosaic.Lib.Pipeline.Regions

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## The staging cells -/

/-- Each custom_call's staging semaphores, listed window by window and slot by slot. -/
abbrev semTab : Fin 2 → List (DmaSem sig) :=
  fun | 0 => Pipeline.specSems spec0 | 1 => Pipeline.specSems spec1 | ⟨_ + 2, h⟩ => absurd h (Nat.not_lt.2 (Nat.le_add_left _ _))
/-- Within each custom_call, no two staging buffers complete on one DMA semaphore. -/
theorem semsDistinct : ∀ p : Fin 2, (semTab p).Nodup := by decide
/-- No two custom_calls' staging buffers share a DMA semaphore. -/
theorem semsDisjoint : ∀ p p' : Fin 2, p ≠ p' → (semTab p).Forall (· ∉ semTab p') := by decide
/-- The program's staging cells are pairwise distinct. -/
theorem cellOf_inj : Function.Injective (Pipeline.cellOf (nD := nD) (τ := τ) cfgs) :=
  Pipeline.cellOf_injective_of_table cfgs semTab (fun | 0 => rfl | 1 => rfl | ⟨_ + 2, h⟩ => absurd h (Nat.not_lt.2 (Nat.le_add_left _ _))) semsDistinct semsDisjoint

/-! ## custom_call 0 (pipeline 0 of @main) -/

/-- The layout the launch needs: the windows' arrays unscoped, distinct buffers, the staging buffers scoped and
    distinct, the staging semaphores scoped. -/
theorem winFacts0 : Pipeline.WinFacts spec0 := by decide
/-- No window's block is empty. -/
theorem block_pos0 : ∀ w : Fin 7, 0 < (spec0 w).block.numel := by decide
/-- The windows' arrays and the staging memrefs are whole buffers. -/
theorem arr_whole0 : ∀ w : Fin 7, (spec0 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | ⟨_ + 7, h⟩ => absurd h (Nat.not_lt.2 (Nat.le_add_left _ _))
theorem stage_whole0 : ∀ (w : Fin 7) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | 5 => fun s => hstage0_5 (s.cast nbuf0_5) | 6 => fun s => hstage0_6 (s.cast nbuf0_6) | ⟨_ + 7, h⟩ => absurd h (Nat.not_lt.2 (Nat.le_add_left _ _))
/-- The five, bundled: what the kit-form launch theorems (Lib/Pipeline/Kit.lean `θ_run_region*_kit`) take. -/
theorem launch0 : Pipeline.LaunchFacts (nD := nD) (τ := τ) cfgs 0 := ⟨cellOf_inj, winFacts0, block_pos0, arr_whole0, stage_whole0⟩

/-- The grid has 10 points. -/
theorem N_0 : grid0.N = 10 := by decide
/-- Point 0. -/
def t0_0 : Fin grid0.N := ⟨0, by rw [N_0]; decide⟩
/-- Point 1. -/
def t0_1 : Fin grid0.N := ⟨1, by rw [N_0]; decide⟩
/-- Point 2. -/
def t0_2 : Fin grid0.N := ⟨2, by rw [N_0]; decide⟩
/-- Point 3. -/
def t0_3 : Fin grid0.N := ⟨3, by rw [N_0]; decide⟩
/-- Point 4. -/
def t0_4 : Fin grid0.N := ⟨4, by rw [N_0]; decide⟩
/-- Point 5. -/
def t0_5 : Fin grid0.N := ⟨5, by rw [N_0]; decide⟩
/-- Point 6. -/
def t0_6 : Fin grid0.N := ⟨6, by rw [N_0]; decide⟩
/-- Point 7. -/
def t0_7 : Fin grid0.N := ⟨7, by rw [N_0]; decide⟩
/-- Point 8. -/
def t0_8 : Fin grid0.N := ⟨8, by rw [N_0]; decide⟩
/-- Point 9. -/
def t0_9 : Fin grid0.N := ⟨9, by rw [N_0]; decide⟩
/-- Every point is one of them. -/
theorem fin_N0 (t : Fin grid0.N) : t = t0_0 ∨ t = t0_1 ∨ t = t0_2 ∨ t = t0_3 ∨ t = t0_4 ∨ t = t0_5 ∨ t = t0_6 ∨ t = t0_7 ∨ t = t0_8 ∨ t = t0_9 := by
  obtain ⟨t, ht⟩ := t; have := N_0; simp only [t0_0, t0_1, t0_2, t0_3, t0_4, t0_5, t0_6, t0_7, t0_8, t0_9, Fin.mk.injEq]; omega

/-- The windows conjoined one by one. -/
theorem bigSep_W0 {M : Type} [URA M] (Φ : Fin 7 → sProp M) : bigSep Finset.univ Φ = iprop(Φ (0 : Fin 7) ∗ Φ (1 : Fin 7) ∗ Φ (2 : Fin 7) ∗ Φ (3 : Fin 7) ∗ Φ (4 : Fin 7) ∗ Φ (5 : Fin 7) ∗ Φ (6 : Fin 7)) :=
  bigSep_univ_eq_bigSepL [(0 : Fin 7), (1 : Fin 7), (2 : Fin 7), (3 : Fin 7), (4 : Fin 7), (5 : Fin 7), (6 : Fin 7)] (by decide) (by decide) Φ
/-- The core's scoped buffers that are no staging buffer of custom_call 0, each whole at some contents:
    `cc1_stg0_0`, `cc1_stg0_1`, `cc1_stg1_0`, `cc1_stg1_1`, `cc1_stg2_0`, `cc1_stg2_1`, `cc1_stg3_0`, `cc1_stg4_0`, `cc1_stg5_0`, `cc1_stg6_0`, `cc1_stg7_0`, `cc1_stg8_0`, `cc1_stg9_0`, `cc1_stg10_0`, `cc1_stg11_0`, `cc1_stg12_0`, `cc1_stg13_0`, `cc1_stg13_1`. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc1_stg0_0), ((c : Thread nD τ).loc cc1_stg0_0) ↦{fullShare} f) ∗ (∃ f : Buf Val ((c : Thread nD τ).loc cc1_stg0_1), ((c : Thread nD τ).loc cc1_stg0_1) ↦{fullShare} f) ∗ (∃ f : Buf Val ((c : Thread nD τ).loc cc1_stg1_0), ((c : Thread nD τ).loc cc1_stg1_0) ↦{fullShare} f) ∗ (∃ f : Buf Val ((c : Thread nD τ).loc cc1_stg1_1), ((c : Thread nD τ).loc cc1_stg1_1) ↦{fullShare} f) ∗ (∃ f : Buf Val ((c : Thread nD τ).loc cc1_stg2_0), ((c : Thread nD τ).loc cc1_stg2_0) ↦{fullShare} f) ∗ (∃ f : Buf Val ((c : Thread nD τ).loc cc1_stg2_1), ((c : Thread nD τ).loc cc1_stg2_1) ↦{fullShare} f) ∗ (∃ f : Buf Val ((c : Thread nD τ).loc cc1_stg3_0), ((c : Thread nD τ).loc cc1_stg3_0) ↦{fullShare} f) ∗ (∃ f : Buf Val ((c : Thread nD τ).loc cc1_stg4_0), ((c : Thread nD τ).loc cc1_stg4_0) ↦{fullShare} f) ∗ (∃ f : Buf Val ((c : Thread nD τ).loc cc1_stg5_0), ((c : Thread nD τ).loc cc1_stg5_0) ↦{fullShare} f) ∗ (∃ f : Buf Val ((c : Thread nD τ).loc cc1_stg6_0), ((c : Thread nD τ).loc cc1_stg6_0) ↦{fullShare} f) ∗ (∃ f : Buf Val ((c : Thread nD τ).loc cc1_stg7_0), ((c : Thread nD τ).loc cc1_stg7_0) ↦{fullShare} f) ∗ (∃ f : Buf Val ((c : Thread nD τ).loc cc1_stg8_0), ((c : Thread nD τ).loc cc1_stg8_0) ↦{fullShare} f) ∗ (∃ f : Buf Val ((c : Thread nD τ).loc cc1_stg9_0), ((c : Thread nD τ).loc cc1_stg9_0) ↦{fullShare} f) ∗ (∃ f : Buf Val ((c : Thread nD τ).loc cc1_stg10_0), ((c : Thread nD τ).loc cc1_stg10_0) ↦{fullShare} f) ∗ (∃ f : Buf Val ((c : Thread nD τ).loc cc1_stg11_0), ((c : Thread nD τ).loc cc1_stg11_0) ↦{fullShare} f) ∗ (∃ f : Buf Val ((c : Thread nD τ).loc cc1_stg12_0), ((c : Thread nD τ).loc cc1_stg12_0) ↦{fullShare} f) ∗ (∃ f : Buf Val ((c : Thread nD τ).loc cc1_stg13_0), ((c : Thread nD τ).loc cc1_stg13_0) ↦{fullShare} f) ∗ (∃ f : Buf Val ((c : Thread nD τ).loc cc1_stg13_1), ((c : Thread nD τ).loc cc1_stg13_1) ↦{fullShare} f)) :=
  Pipeline.scopedRest_eq_of_list spec0 c [cc1_stg0_0, cc1_stg0_1, cc1_stg1_0, cc1_stg1_1, cc1_stg2_0, cc1_stg2_1, cc1_stg3_0, cc1_stg4_0, cc1_stg5_0, cc1_stg6_0, cc1_stg7_0, cc1_stg8_0, cc1_stg9_0, cc1_stg10_0, cc1_stg11_0, cc1_stg12_0, cc1_stg13_0, cc1_stg13_1] (by decide) (by decide)
-- the unscoped rest of custom_call 0 is 71 buffers: not enumerated (routed whole, as `Pipeline.unscopedRest`)

/-! ## custom_call 1 (pipeline 1 of @main) -/

/-- The layout the launch needs: the windows' arrays unscoped, distinct buffers, the staging buffers scoped and
    distinct, the staging semaphores scoped. -/
theorem winFacts1 : Pipeline.WinFacts spec1 := by decide
/-- No window's block is empty. -/
theorem block_pos1 : ∀ w : Fin 14, 0 < (spec1 w).block.numel := by decide
/-- The windows' arrays and the staging memrefs are whole buffers. -/
theorem arr_whole1 : ∀ w : Fin 14, (spec1 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | 10 => Memref.isWhole_whole _ | 11 => Memref.isWhole_whole _ | 12 => Memref.isWhole_whole _ | 13 => Memref.isWhole_whole _ | ⟨_ + 14, h⟩ => absurd h (Nat.not_lt.2 (Nat.le_add_left _ _))
theorem stage_whole1 : ∀ (w : Fin 14) (s : Fin (spec1 w).nbuf), ((spec1 w).stage s).IsWhole := fun | 0 => fun s => hstage1_0 (s.cast nbuf1_0) | 1 => fun s => hstage1_1 (s.cast nbuf1_1) | 2 => fun s => hstage1_2 (s.cast nbuf1_2) | 3 => fun s => hstage1_3 (s.cast nbuf1_3) | 4 => fun s => hstage1_4 (s.cast nbuf1_4) | 5 => fun s => hstage1_5 (s.cast nbuf1_5) | 6 => fun s => hstage1_6 (s.cast nbuf1_6) | 7 => fun s => hstage1_7 (s.cast nbuf1_7) | 8 => fun s => hstage1_8 (s.cast nbuf1_8) | 9 => fun s => hstage1_9 (s.cast nbuf1_9) | 10 => fun s => hstage1_10 (s.cast nbuf1_10) | 11 => fun s => hstage1_11 (s.cast nbuf1_11) | 12 => fun s => hstage1_12 (s.cast nbuf1_12) | 13 => fun s => hstage1_13 (s.cast nbuf1_13) | ⟨_ + 14, h⟩ => absurd h (Nat.not_lt.2 (Nat.le_add_left _ _))
/-- The five, bundled: what the kit-form launch theorems (Lib/Pipeline/Kit.lean `θ_run_region*_kit`) take. -/
theorem launch1 : Pipeline.LaunchFacts (nD := nD) (τ := τ) cfgs 1 := ⟨cellOf_inj, winFacts1, block_pos1, arr_whole1, stage_whole1⟩

/-- The grid has 10 points. -/
theorem N_1 : grid1.N = 10 := by decide
/-- Point 0. -/
def t1_0 : Fin grid1.N := ⟨0, by rw [N_1]; decide⟩
/-- Point 1. -/
def t1_1 : Fin grid1.N := ⟨1, by rw [N_1]; decide⟩
/-- Point 2. -/
def t1_2 : Fin grid1.N := ⟨2, by rw [N_1]; decide⟩
/-- Point 3. -/
def t1_3 : Fin grid1.N := ⟨3, by rw [N_1]; decide⟩
/-- Point 4. -/
def t1_4 : Fin grid1.N := ⟨4, by rw [N_1]; decide⟩
/-- Point 5. -/
def t1_5 : Fin grid1.N := ⟨5, by rw [N_1]; decide⟩
/-- Point 6. -/
def t1_6 : Fin grid1.N := ⟨6, by rw [N_1]; decide⟩
/-- Point 7. -/
def t1_7 : Fin grid1.N := ⟨7, by rw [N_1]; decide⟩
/-- Point 8. -/
def t1_8 : Fin grid1.N := ⟨8, by rw [N_1]; decide⟩
/-- Point 9. -/
def t1_9 : Fin grid1.N := ⟨9, by rw [N_1]; decide⟩
/-- Every point is one of them. -/
theorem fin_N1 (t : Fin grid1.N) : t = t1_0 ∨ t = t1_1 ∨ t = t1_2 ∨ t = t1_3 ∨ t = t1_4 ∨ t = t1_5 ∨ t = t1_6 ∨ t = t1_7 ∨ t = t1_8 ∨ t = t1_9 := by
  obtain ⟨t, ht⟩ := t; have := N_1; simp only [t1_0, t1_1, t1_2, t1_3, t1_4, t1_5, t1_6, t1_7, t1_8, t1_9, Fin.mk.injEq]; omega

/-- The windows conjoined one by one. -/
theorem bigSep_W1 {M : Type} [URA M] (Φ : Fin 14 → sProp M) : bigSep Finset.univ Φ = iprop(Φ (0 : Fin 14) ∗ Φ (1 : Fin 14) ∗ Φ (2 : Fin 14) ∗ Φ (3 : Fin 14) ∗ Φ (4 : Fin 14) ∗ Φ (5 : Fin 14) ∗ Φ (6 : Fin 14) ∗ Φ (7 : Fin 14) ∗ Φ (8 : Fin 14) ∗ Φ (9 : Fin 14) ∗ Φ (10 : Fin 14) ∗ Φ (11 : Fin 14) ∗ Φ (12 : Fin 14) ∗ Φ (13 : Fin 14)) :=
  bigSep_univ_eq_bigSepL [(0 : Fin 14), (1 : Fin 14), (2 : Fin 14), (3 : Fin 14), (4 : Fin 14), (5 : Fin 14), (6 : Fin 14), (7 : Fin 14), (8 : Fin 14), (9 : Fin 14), (10 : Fin 14), (11 : Fin 14), (12 : Fin 14), (13 : Fin 14)] (by decide) (by decide) Φ
/-- The core's scoped buffers that are no staging buffer of custom_call 1, each whole at some contents:
    `cc0_stg0_0`, `cc0_stg0_1`, `cc0_stg1_0`, `cc0_stg2_0`, `cc0_stg3_0`, `cc0_stg4_0`, `cc0_stg4_1`, `cc0_stg5_0`, `cc0_stg5_1`, `cc0_stg6_0`, `cc0_stg6_1`. -/
theorem scopedRest1_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop((∃ f : Buf Val ((c : Thread nD τ).loc cc0_stg0_0), ((c : Thread nD τ).loc cc0_stg0_0) ↦{fullShare} f) ∗ (∃ f : Buf Val ((c : Thread nD τ).loc cc0_stg0_1), ((c : Thread nD τ).loc cc0_stg0_1) ↦{fullShare} f) ∗ (∃ f : Buf Val ((c : Thread nD τ).loc cc0_stg1_0), ((c : Thread nD τ).loc cc0_stg1_0) ↦{fullShare} f) ∗ (∃ f : Buf Val ((c : Thread nD τ).loc cc0_stg2_0), ((c : Thread nD τ).loc cc0_stg2_0) ↦{fullShare} f) ∗ (∃ f : Buf Val ((c : Thread nD τ).loc cc0_stg3_0), ((c : Thread nD τ).loc cc0_stg3_0) ↦{fullShare} f) ∗ (∃ f : Buf Val ((c : Thread nD τ).loc cc0_stg4_0), ((c : Thread nD τ).loc cc0_stg4_0) ↦{fullShare} f) ∗ (∃ f : Buf Val ((c : Thread nD τ).loc cc0_stg4_1), ((c : Thread nD τ).loc cc0_stg4_1) ↦{fullShare} f) ∗ (∃ f : Buf Val ((c : Thread nD τ).loc cc0_stg5_0), ((c : Thread nD τ).loc cc0_stg5_0) ↦{fullShare} f) ∗ (∃ f : Buf Val ((c : Thread nD τ).loc cc0_stg5_1), ((c : Thread nD τ).loc cc0_stg5_1) ↦{fullShare} f) ∗ (∃ f : Buf Val ((c : Thread nD τ).loc cc0_stg6_0), ((c : Thread nD τ).loc cc0_stg6_0) ↦{fullShare} f) ∗ (∃ f : Buf Val ((c : Thread nD τ).loc cc0_stg6_1), ((c : Thread nD τ).loc cc0_stg6_1) ↦{fullShare} f)) :=
  Pipeline.scopedRest_eq_of_list spec1 c [cc0_stg0_0, cc0_stg0_1, cc0_stg1_0, cc0_stg2_0, cc0_stg3_0, cc0_stg4_0, cc0_stg4_1, cc0_stg5_0, cc0_stg5_1, cc0_stg6_0, cc0_stg6_1] (by decide) (by decide)
-- the unscoped rest of custom_call 1 is 64 buffers: not enumerated (routed whole, as `Pipeline.unscopedRest`)

/-! ## @main as segments and as a chain of items (Lib/Pipeline/Regions.lean `θ_run_regions_kit`, `Pipeline.chain`) -/

/-- 5 host operations of @main, in order. -/
abbrev hostOps0 : List (HloOp τ sig (Elt F)) :=
  [ StableHlo.nullary main_cst (fun i => FloatOps.ofBits .f32 (lit0 (S8x128.rowMajor i))),
    StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 (rfl : (.i32 : EltTy) = .i32) shapeCasts_S1x320000_S320000,
    StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 (rfl : (.i32 : EltTy) = .i32) shapeCasts_S1x320000_S320000 ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.nullary_bufs_sub .., StableHlo.unary_bufs_sub .., StableHlo.reshape_bufs_sub .., StableHlo.unary_bufs_sub .., StableHlo.reshape_bufs_sub ..⟩
/-- 55 host operations of @main, in order. -/
abbrev hostOps1 : List (HloOp τ sig (Elt F)) :=
  ( StableHlo.nullary main_c (constantI S_ 32 0#32)
  :: StableHlo.unary main_c main_v5 (broadcastInDim S320000 ![] bcast_S_S320000 : (⟨S_, .i32⟩ : BufTy).Contents (Elt F) → (⟨S320000, .i32⟩ : BufTy).Contents (Elt F))
  :: StableHlo.binary main_v1 main_v5 main_v6 (cmpi .slt : (⟨S320000, .i32⟩ : BufTy).Contents (Elt F) → (⟨S320000, .i32⟩ : BufTy).Contents (Elt F) → (⟨S320000, .i1⟩ : BufTy).Contents (Elt F))
  :: StableHlo.nullary main_c_0 (constantI S_ 32 10000#32)
  :: StableHlo.unary main_c_0 main_v7 (broadcastInDim S320000 ![] bcast_S_S320000 : (⟨S_, .i32⟩ : BufTy).Contents (Elt F) → (⟨S320000, .i32⟩ : BufTy).Contents (Elt F))
  :: StableHlo.binary main_v1 main_v7 main_v8 (addi : (⟨S320000, .i32⟩ : BufTy).Contents (Elt F) → (⟨S320000, .i32⟩ : BufTy).Contents (Elt F) → (⟨S320000, .i32⟩ : BufTy).Contents (Elt F))
  :: StableHlo.ternary main_v6 main_v8 main_v1 main_v9 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F))
  :: StableHlo.unary main_v9 main_v10 (broadcastInDim S320000x1 ![0] bcast_S320000_S320000x1_0 : (⟨S320000, .i32⟩ : BufTy).Contents (Elt F) → (⟨S320000x1, .i32⟩ : BufTy).Contents (Elt F))
  :: StableHlo.binary main_v4_1 main_v10 main_v11 ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F))
  :: StableHlo.reshape main_v11 main_v12 (rfl : (.f32 : EltTy) = .f32) shapeCasts_S320000x128_S320000x8x16
  :: StableHlo.nullary main_c_1 (constantI S_ 32 0#32)
  :: StableHlo.unary main_c_1 main_v13 (broadcastInDim S320000 ![] bcast_S_S320000 : (⟨S_, .i32⟩ : BufTy).Contents (Elt F) → (⟨S320000, .i32⟩ : BufTy).Contents (Elt F))
  :: StableHlo.binary main_v3 main_v13 main_v14 (cmpi .slt : (⟨S320000, .i32⟩ : BufTy).Contents (Elt F) → (⟨S320000, .i32⟩ : BufTy).Contents (Elt F) → (⟨S320000, .i1⟩ : BufTy).Contents (Elt F))
  :: StableHlo.nullary main_c_2 (constantI S_ 32 10000#32)
  :: StableHlo.unary main_c_2 main_v15 (broadcastInDim S320000 ![] bcast_S_S320000 : (⟨S_, .i32⟩ : BufTy).Contents (Elt F) → (⟨S320000, .i32⟩ : BufTy).Contents (Elt F))
  :: StableHlo.binary main_v3 main_v15 main_v16 (addi : (⟨S320000, .i32⟩ : BufTy).Contents (Elt F) → (⟨S320000, .i32⟩ : BufTy).Contents (Elt F) → (⟨S320000, .i32⟩ : BufTy).Contents (Elt F))
  :: StableHlo.ternary main_v14 main_v16 main_v3 main_v17 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F))
  :: StableHlo.unary main_v17 main_v18 (broadcastInDim S320000x1 ![0] bcast_S320000_S320000x1_0 : (⟨S320000, .i32⟩ : BufTy).Contents (Elt F) → (⟨S320000x1, .i32⟩ : BufTy).Contents (Elt F))
  :: StableHlo.binary main_v4_0 main_v18 main_v19 ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F))
  :: StableHlo.reshape main_v19 main_v20 (rfl : (.f32 : EltTy) = .f32) shapeCasts_S320000x128_S320000x8x16
  :: StableHlo.nullary main_c_3 (constantI S_ 32 0#32)
  :: StableHlo.unary main_c_3 main_v21 (broadcastInDim S320000 ![] bcast_S_S320000 : (⟨S_, .i32⟩ : BufTy).Contents (Elt F) → (⟨S320000, .i32⟩ : BufTy).Contents (Elt F))
  :: StableHlo.binary main_v1 main_v21 main_v22 (cmpi .slt : (⟨S320000, .i32⟩ : BufTy).Contents (Elt F) → (⟨S320000, .i32⟩ : BufTy).Contents (Elt F) → (⟨S320000, .i1⟩ : BufTy).Contents (Elt F))
  :: StableHlo.nullary main_c_4 (constantI S_ 32 10000#32)
  :: StableHlo.unary main_c_4 main_v23 (broadcastInDim S320000 ![] bcast_S_S320000 : (⟨S_, .i32⟩ : BufTy).Contents (Elt F) → (⟨S320000, .i32⟩ : BufTy).Contents (Elt F))
  :: StableHlo.binary main_v1 main_v23 main_v24 (addi : (⟨S320000, .i32⟩ : BufTy).Contents (Elt F) → (⟨S320000, .i32⟩ : BufTy).Contents (Elt F) → (⟨S320000, .i32⟩ : BufTy).Contents (Elt F))
  :: StableHlo.ternary main_v22 main_v24 main_v1 main_v25 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F))
  :: StableHlo.unary main_v25 main_v26 (broadcastInDim S320000x1 ![0] bcast_S320000_S320000x1_0 : (⟨S320000, .i32⟩ : BufTy).Contents (Elt F) → (⟨S320000x1, .i32⟩ : BufTy).Contents (Elt F))
  :: StableHlo.binary main_v4_2 main_v26 main_v27 ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F))
  :: StableHlo.reshape main_v27 main_v28 (rfl : (.f32 : EltTy) = .f32) shapeCasts_S320000x128_S320000x8x16
  :: StableHlo.binary main_v12 main_v20 main_v29 (mulf : (⟨S320000x8x16, .f32⟩ : BufTy).Contents (Elt F) → (⟨S320000x8x16, .f32⟩ : BufTy).Contents (Elt F) → (⟨S320000x8x16, .f32⟩ : BufTy).Contents (Elt F))
  :: StableHlo.nullary main_cst_5 (constant S_ .f32 0x00000000#32)
  :: StableHlo.binary main_v29 main_cst_5 main_v30 ((fun x v => Host.reduceAdd x v reducesTo_S320000x8x16_S320000x8_d2 h_S_) : (⟨S320000x8x16, .f32⟩ : BufTy).Contents (Elt F) → (⟨S_, .f32⟩ : BufTy).Contents (Elt F) → (⟨S320000x8, .f32⟩ : BufTy).Contents (Elt F))
  :: StableHlo.nullary main_cst_6 (constant S_ .f32 0x3E800000#32)
  :: StableHlo.unary main_cst_6 main_v31 (broadcastInDim S320000x8 ![] bcast_S_S320000x8 : (⟨S_, .f32⟩ : BufTy).Contents (Elt F) → (⟨S320000x8, .f32⟩ : BufTy).Contents (Elt F))
  :: StableHlo.binary main_v30 main_v31 main_v32 (mulf : (⟨S320000x8, .f32⟩ : BufTy).Contents (Elt F) → (⟨S320000x8, .f32⟩ : BufTy).Contents (Elt F) → (⟨S320000x8, .f32⟩ : BufTy).Contents (Elt F))
  :: StableHlo.unary main_v32 main_v33 (Host.exp : (⟨S320000x8, .f32⟩ : BufTy).Contents (Elt F) → (⟨S320000x8, .f32⟩ : BufTy).Contents (Elt F))
  :: StableHlo.nullary main_cst_7 (constant S_ .f32 0x00000000#32)
  :: StableHlo.unary main_cst_7 main_v34 (broadcastInDim S10000x8 ![] bcast_S_S10000x8 : (⟨S_, .f32⟩ : BufTy).Contents (Elt F) → (⟨S10000x8, .f32⟩ : BufTy).Contents (Elt F))
  :: StableHlo.unary main_v3 main_v35 (broadcastInDim S320000x1 ![0] bcast_S320000_S320000x1_0 : (⟨S320000, .i32⟩ : BufTy).Contents (Elt F) → (⟨S320000x1, .i32⟩ : BufTy).Contents (Elt F))
  :: StableHlo.ternary main_v34 main_v35 main_v33 main_v36 ((fun x i u => Host.scatterAdd scatter_S10000x8_S320000x1_S320000x8_1_0_0_1 x i u) : (⟨S10000x8, .f32⟩ : BufTy).Contents (Elt F) → (⟨S320000x1, .i32⟩ : BufTy).Contents (Elt F) → (⟨S320000x8, .f32⟩ : BufTy).Contents (Elt F) → (⟨S10000x8, .f32⟩ : BufTy).Contents (Elt F))
  :: StableHlo.unary main_v33 main_v37 (broadcastInDim S320000x8x1 ![0, 1] bcast_S320000x8_S320000x8x1_0_1 : (⟨S320000x8, .f32⟩ : BufTy).Contents (Elt F) → (⟨S320000x8x1, .f32⟩ : BufTy).Contents (Elt F))
  :: StableHlo.unary main_v37 main_v38 (broadcastInDim S320000x8x16 ![0, 1, 2] bcast_S320000x8x1_S320000x8x16_0_1_2 : (⟨S320000x8x1, .f32⟩ : BufTy).Contents (Elt F) → (⟨S320000x8x16, .f32⟩ : BufTy).Contents (Elt F))
  :: StableHlo.binary main_v38 main_v28 main_v39 (mulf : (⟨S320000x8x16, .f32⟩ : BufTy).Contents (Elt F) → (⟨S320000x8x16, .f32⟩ : BufTy).Contents (Elt F) → (⟨S320000x8x16, .f32⟩ : BufTy).Contents (Elt F))
  :: StableHlo.nullary main_cst_8 (constant S_ .f32 0x00000000#32)
  :: StableHlo.unary main_cst_8 main_v40 (broadcastInDim S10000x8x16 ![] bcast_S_S10000x8x16 : (⟨S_, .f32⟩ : BufTy).Contents (Elt F) → (⟨S10000x8x16, .f32⟩ : BufTy).Contents (Elt F))
  :: StableHlo.unary main_v3 main_v41 (broadcastInDim S320000x1 ![0] bcast_S320000_S320000x1_0 : (⟨S320000, .i32⟩ : BufTy).Contents (Elt F) → (⟨S320000x1, .i32⟩ : BufTy).Contents (Elt F))
  :: StableHlo.ternary main_v40 main_v41 main_v39 main_v42 ((fun x i u => Host.scatterAdd scatter_S10000x8x16_S320000x1_S320000x8x16_12_0_0_1 x i u) : (⟨S10000x8x16, .f32⟩ : BufTy).Contents (Elt F) → (⟨S320000x1, .i32⟩ : BufTy).Contents (Elt F) → (⟨S320000x8x16, .f32⟩ : BufTy).Contents (Elt F) → (⟨S10000x8x16, .f32⟩ : BufTy).Contents (Elt F))
  :: StableHlo.reshape main_v42 main_v43 (rfl : (.f32 : EltTy) = .f32) shapeCasts_S10000x8x16_S10000x128
  :: StableHlo.reshape main_arg6 main_v44 (rfl : (.f32 : EltTy) = .f32) shapeCasts_S128_S1x128
  :: StableHlo.reshape main_arg7 main_v45 (rfl : (.f32 : EltTy) = .f32) shapeCasts_S128_S1x128
  :: StableHlo.reshape main_arg9 main_v46 (rfl : (.f32 : EltTy) = .f32) shapeCasts_S512_S1x512
  :: StableHlo.reshape main_arg11 main_v47 (rfl : (.f32 : EltTy) = .f32) shapeCasts_S128_S1x128
  :: StableHlo.reshape main_arg12 main_v48 (rfl : (.f32 : EltTy) = .f32) shapeCasts_S128_S1x128
  :: StableHlo.reshape main_arg13 main_v49 (rfl : (.f32 : EltTy) = .f32) shapeCasts_S128_S1x128
  :: [] )
/-- Each touches TensorCore references only (`HostSeg.ofOps` over `StableHlo.tcRefs`, or a subset by `sub_ucRefs`). -/
theorem hostOps1_sub : (hostOps1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.reshape_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.reshape_bufs_sub .., StableHlo.reshape_bufs_sub .., StableHlo.reshape_bufs_sub .., StableHlo.reshape_bufs_sub .., StableHlo.reshape_bufs_sub .., StableHlo.reshape_bufs_sub .., StableHlo.reshape_bufs_sub ..⟩
/-- 5 host operations of @main, window 0 (statements 1 … 60), in order. -/
abbrev main_part0_ops0 : List (HloOp τ sig (Elt F)) :=
  [ StableHlo.nullary main_cst (fun i => FloatOps.ofBits .f32 (lit0 (S8x128.rowMajor i))),
    StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 (rfl : (.i32 : EltTy) = .i32) shapeCasts_S1x320000_S320000,
    StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 (rfl : (.i32 : EltTy) = .i32) shapeCasts_S1x320000_S320000 ]
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.nullary_bufs_sub .., StableHlo.unary_bufs_sub .., StableHlo.reshape_bufs_sub .., StableHlo.unary_bufs_sub .., StableHlo.reshape_bufs_sub ..⟩
/-- 54 host operations of @main, window 0 (statements 1 … 60), in order. -/
abbrev main_part0_ops1 : List (HloOp τ sig (Elt F)) :=
  ( StableHlo.nullary main_c (constantI S_ 32 0#32)
  :: StableHlo.unary main_c main_v5 (broadcastInDim S320000 ![] bcast_S_S320000 : (⟨S_, .i32⟩ : BufTy).Contents (Elt F) → (⟨S320000, .i32⟩ : BufTy).Contents (Elt F))
  :: StableHlo.binary main_v1 main_v5 main_v6 (cmpi .slt : (⟨S320000, .i32⟩ : BufTy).Contents (Elt F) → (⟨S320000, .i32⟩ : BufTy).Contents (Elt F) → (⟨S320000, .i1⟩ : BufTy).Contents (Elt F))
  :: StableHlo.nullary main_c_0 (constantI S_ 32 10000#32)
  :: StableHlo.unary main_c_0 main_v7 (broadcastInDim S320000 ![] bcast_S_S320000 : (⟨S_, .i32⟩ : BufTy).Contents (Elt F) → (⟨S320000, .i32⟩ : BufTy).Contents (Elt F))
  :: StableHlo.binary main_v1 main_v7 main_v8 (addi : (⟨S320000, .i32⟩ : BufTy).Contents (Elt F) → (⟨S320000, .i32⟩ : BufTy).Contents (Elt F) → (⟨S320000, .i32⟩ : BufTy).Contents (Elt F))
  :: StableHlo.ternary main_v6 main_v8 main_v1 main_v9 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F))
  :: StableHlo.unary main_v9 main_v10 (broadcastInDim S320000x1 ![0] bcast_S320000_S320000x1_0 : (⟨S320000, .i32⟩ : BufTy).Contents (Elt F) → (⟨S320000x1, .i32⟩ : BufTy).Contents (Elt F))
  :: StableHlo.binary main_v4_1 main_v10 main_v11 ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F))
  :: StableHlo.reshape main_v11 main_v12 (rfl : (.f32 : EltTy) = .f32) shapeCasts_S320000x128_S320000x8x16
  :: StableHlo.nullary main_c_1 (constantI S_ 32 0#32)
  :: StableHlo.unary main_c_1 main_v13 (broadcastInDim S320000 ![] bcast_S_S320000 : (⟨S_, .i32⟩ : BufTy).Contents (Elt F) → (⟨S320000, .i32⟩ : BufTy).Contents (Elt F))
  :: StableHlo.binary main_v3 main_v13 main_v14 (cmpi .slt : (⟨S320000, .i32⟩ : BufTy).Contents (Elt F) → (⟨S320000, .i32⟩ : BufTy).Contents (Elt F) → (⟨S320000, .i1⟩ : BufTy).Contents (Elt F))
  :: StableHlo.nullary main_c_2 (constantI S_ 32 10000#32)
  :: StableHlo.unary main_c_2 main_v15 (broadcastInDim S320000 ![] bcast_S_S320000 : (⟨S_, .i32⟩ : BufTy).Contents (Elt F) → (⟨S320000, .i32⟩ : BufTy).Contents (Elt F))
  :: StableHlo.binary main_v3 main_v15 main_v16 (addi : (⟨S320000, .i32⟩ : BufTy).Contents (Elt F) → (⟨S320000, .i32⟩ : BufTy).Contents (Elt F) → (⟨S320000, .i32⟩ : BufTy).Contents (Elt F))
  :: StableHlo.ternary main_v14 main_v16 main_v3 main_v17 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F))
  :: StableHlo.unary main_v17 main_v18 (broadcastInDim S320000x1 ![0] bcast_S320000_S320000x1_0 : (⟨S320000, .i32⟩ : BufTy).Contents (Elt F) → (⟨S320000x1, .i32⟩ : BufTy).Contents (Elt F))
  :: StableHlo.binary main_v4_0 main_v18 main_v19 ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F))
  :: StableHlo.reshape main_v19 main_v20 (rfl : (.f32 : EltTy) = .f32) shapeCasts_S320000x128_S320000x8x16
  :: StableHlo.nullary main_c_3 (constantI S_ 32 0#32)
  :: StableHlo.unary main_c_3 main_v21 (broadcastInDim S320000 ![] bcast_S_S320000 : (⟨S_, .i32⟩ : BufTy).Contents (Elt F) → (⟨S320000, .i32⟩ : BufTy).Contents (Elt F))
  :: StableHlo.binary main_v1 main_v21 main_v22 (cmpi .slt : (⟨S320000, .i32⟩ : BufTy).Contents (Elt F) → (⟨S320000, .i32⟩ : BufTy).Contents (Elt F) → (⟨S320000, .i1⟩ : BufTy).Contents (Elt F))
  :: StableHlo.nullary main_c_4 (constantI S_ 32 10000#32)
  :: StableHlo.unary main_c_4 main_v23 (broadcastInDim S320000 ![] bcast_S_S320000 : (⟨S_, .i32⟩ : BufTy).Contents (Elt F) → (⟨S320000, .i32⟩ : BufTy).Contents (Elt F))
  :: StableHlo.binary main_v1 main_v23 main_v24 (addi : (⟨S320000, .i32⟩ : BufTy).Contents (Elt F) → (⟨S320000, .i32⟩ : BufTy).Contents (Elt F) → (⟨S320000, .i32⟩ : BufTy).Contents (Elt F))
  :: StableHlo.ternary main_v22 main_v24 main_v1 main_v25 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F))
  :: StableHlo.unary main_v25 main_v26 (broadcastInDim S320000x1 ![0] bcast_S320000_S320000x1_0 : (⟨S320000, .i32⟩ : BufTy).Contents (Elt F) → (⟨S320000x1, .i32⟩ : BufTy).Contents (Elt F))
  :: StableHlo.binary main_v4_2 main_v26 main_v27 ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F))
  :: StableHlo.reshape main_v27 main_v28 (rfl : (.f32 : EltTy) = .f32) shapeCasts_S320000x128_S320000x8x16
  :: StableHlo.binary main_v12 main_v20 main_v29 (mulf : (⟨S320000x8x16, .f32⟩ : BufTy).Contents (Elt F) → (⟨S320000x8x16, .f32⟩ : BufTy).Contents (Elt F) → (⟨S320000x8x16, .f32⟩ : BufTy).Contents (Elt F))
  :: StableHlo.nullary main_cst_5 (constant S_ .f32 0x00000000#32)
  :: StableHlo.binary main_v29 main_cst_5 main_v30 ((fun x v => Host.reduceAdd x v reducesTo_S320000x8x16_S320000x8_d2 h_S_) : (⟨S320000x8x16, .f32⟩ : BufTy).Contents (Elt F) → (⟨S_, .f32⟩ : BufTy).Contents (Elt F) → (⟨S320000x8, .f32⟩ : BufTy).Contents (Elt F))
  :: StableHlo.nullary main_cst_6 (constant S_ .f32 0x3E800000#32)
  :: StableHlo.unary main_cst_6 main_v31 (broadcastInDim S320000x8 ![] bcast_S_S320000x8 : (⟨S_, .f32⟩ : BufTy).Contents (Elt F) → (⟨S320000x8, .f32⟩ : BufTy).Contents (Elt F))
  :: StableHlo.binary main_v30 main_v31 main_v32 (mulf : (⟨S320000x8, .f32⟩ : BufTy).Contents (Elt F) → (⟨S320000x8, .f32⟩ : BufTy).Contents (Elt F) → (⟨S320000x8, .f32⟩ : BufTy).Contents (Elt F))
  :: StableHlo.unary main_v32 main_v33 (Host.exp : (⟨S320000x8, .f32⟩ : BufTy).Contents (Elt F) → (⟨S320000x8, .f32⟩ : BufTy).Contents (Elt F))
  :: StableHlo.nullary main_cst_7 (constant S_ .f32 0x00000000#32)
  :: StableHlo.unary main_cst_7 main_v34 (broadcastInDim S10000x8 ![] bcast_S_S10000x8 : (⟨S_, .f32⟩ : BufTy).Contents (Elt F) → (⟨S10000x8, .f32⟩ : BufTy).Contents (Elt F))
  :: StableHlo.unary main_v3 main_v35 (broadcastInDim S320000x1 ![0] bcast_S320000_S320000x1_0 : (⟨S320000, .i32⟩ : BufTy).Contents (Elt F) → (⟨S320000x1, .i32⟩ : BufTy).Contents (Elt F))
  :: StableHlo.ternary main_v34 main_v35 main_v33 main_v36 ((fun x i u => Host.scatterAdd scatter_S10000x8_S320000x1_S320000x8_1_0_0_1 x i u) : (⟨S10000x8, .f32⟩ : BufTy).Contents (Elt F) → (⟨S320000x1, .i32⟩ : BufTy).Contents (Elt F) → (⟨S320000x8, .f32⟩ : BufTy).Contents (Elt F) → (⟨S10000x8, .f32⟩ : BufTy).Contents (Elt F))
  :: StableHlo.unary main_v33 main_v37 (broadcastInDim S320000x8x1 ![0, 1] bcast_S320000x8_S320000x8x1_0_1 : (⟨S320000x8, .f32⟩ : BufTy).Contents (Elt F) → (⟨S320000x8x1, .f32⟩ : BufTy).Contents (Elt F))
  :: StableHlo.unary main_v37 main_v38 (broadcastInDim S320000x8x16 ![0, 1, 2] bcast_S320000x8x1_S320000x8x16_0_1_2 : (⟨S320000x8x1, .f32⟩ : BufTy).Contents (Elt F) → (⟨S320000x8x16, .f32⟩ : BufTy).Contents (Elt F))
  :: StableHlo.binary main_v38 main_v28 main_v39 (mulf : (⟨S320000x8x16, .f32⟩ : BufTy).Contents (Elt F) → (⟨S320000x8x16, .f32⟩ : BufTy).Contents (Elt F) → (⟨S320000x8x16, .f32⟩ : BufTy).Contents (Elt F))
  :: StableHlo.nullary main_cst_8 (constant S_ .f32 0x00000000#32)
  :: StableHlo.unary main_cst_8 main_v40 (broadcastInDim S10000x8x16 ![] bcast_S_S10000x8x16 : (⟨S_, .f32⟩ : BufTy).Contents (Elt F) → (⟨S10000x8x16, .f32⟩ : BufTy).Contents (Elt F))
  :: StableHlo.unary main_v3 main_v41 (broadcastInDim S320000x1 ![0] bcast_S320000_S320000x1_0 : (⟨S320000, .i32⟩ : BufTy).Contents (Elt F) → (⟨S320000x1, .i32⟩ : BufTy).Contents (Elt F))
  :: StableHlo.ternary main_v40 main_v41 main_v39 main_v42 ((fun x i u => Host.scatterAdd scatter_S10000x8x16_S320000x1_S320000x8x16_12_0_0_1 x i u) : (⟨S10000x8x16, .f32⟩ : BufTy).Contents (Elt F) → (⟨S320000x1, .i32⟩ : BufTy).Contents (Elt F) → (⟨S320000x8x16, .f32⟩ : BufTy).Contents (Elt F) → (⟨S10000x8x16, .f32⟩ : BufTy).Contents (Elt F))
  :: StableHlo.reshape main_v42 main_v43 (rfl : (.f32 : EltTy) = .f32) shapeCasts_S10000x8x16_S10000x128
  :: StableHlo.reshape main_arg6 main_v44 (rfl : (.f32 : EltTy) = .f32) shapeCasts_S128_S1x128
  :: StableHlo.reshape main_arg7 main_v45 (rfl : (.f32 : EltTy) = .f32) shapeCasts_S128_S1x128
  :: StableHlo.reshape main_arg9 main_v46 (rfl : (.f32 : EltTy) = .f32) shapeCasts_S512_S1x512
  :: StableHlo.reshape main_arg11 main_v47 (rfl : (.f32 : EltTy) = .f32) shapeCasts_S128_S1x128
  :: StableHlo.reshape main_arg12 main_v48 (rfl : (.f32 : EltTy) = .f32) shapeCasts_S128_S1x128
  :: [] )
/-- Each touches TensorCore references only (`HostSeg.ofOps` over `StableHlo.tcRefs`, or a subset by `sub_ucRefs`). -/
theorem main_part0_ops1_sub : (main_part0_ops1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.reshape_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.reshape_bufs_sub .., StableHlo.reshape_bufs_sub .., StableHlo.reshape_bufs_sub .., StableHlo.reshape_bufs_sub .., StableHlo.reshape_bufs_sub .., StableHlo.reshape_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    Prog.lift (.customCall (Pipeline.entry 0) ()) ]
  (StableHlo.seq main_part0_ops1) : Prog (TpuEff nD τ sig (Elt F) (Pipeline.Sig Λ₀ (Fin 2) fun p => (pcfgs (F := F) p).Adm) .tc) PUnit) := by
  rewrite [StableHlo.chainK_seq_cons, Pipeline.chainK_cons]
  chain_rfl

/-- 1 host operation of @main, window 1 (statements 61 … 63), in order. -/
abbrev main_part1_ops0 : List (HloOp τ sig (Elt F)) :=
  [ StableHlo.reshape main_arg13 main_v49 (rfl : (.f32 : EltTy) = .f32) shapeCasts_S128_S1x128 ]
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  StableHlo.reshape_bufs_sub ..
/-- The last window of `main` (`main_part1`, statements 61 … 63) is the chain of ITS items, each item aligned with the window's
    statements, then `chain_rfl`. -/
theorem main_part1_chain (c : Dev nD) : main_part1 (F := F) c = (Pipeline.chain
  [ StableHlo.seq main_part1_ops0,
    Prog.lift (.customCall (Pipeline.entry 1) ()) ] : Prog (TpuEff nD τ sig (Elt F) (Pipeline.Sig Λ₀ (Fin 2) fun p => (pcfgs (F := F) p).Adm) .tc) PUnit) := by
  rewrite [StableHlo.chain_seq_cons, Pipeline.chain_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    Prog.lift (.customCall (Pipeline.entry 0) ()),
    StableHlo.seq main_part0_ops1,
    StableHlo.seq main_part1_ops0,
    Prog.lift (.customCall (Pipeline.entry 1) ()) ] : Prog (TpuEff nD τ sig (Elt F) (Pipeline.Sig Λ₀ (Fin 2) fun p => (pcfgs (F := F) p).Adm) .tc) PUnit) := by
  show (main_part0 (F := F) c >>= fun _ => main_part1 (F := F) c) = _
  rewrite [main_part1_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (Pipeline.Sig Λ₀ (Fin 2) fun p => (pcfgs (F := F) p).Adm)) :=
  [ .ops [main_part0_ops0],
    .prog (Prog.lift (.customCall (Pipeline.entry 0) ())),
    .ops [main_part0_ops1, main_part1_ops0],
    .prog (Prog.lift (.customCall (Pipeline.entry 1) ())) ]

/-- The windows' item list is `main_groups` with each stretch cut into its window pieces (`StableHlo.Group.cut`): the two
    lists are the same, by `chain_rfl`. -/
theorem main_chain_cut (c : Dev nD) : (Pipeline.chain
  [ StableHlo.seq main_part0_ops0,
    Prog.lift (.customCall (Pipeline.entry 0) ()),
    StableHlo.seq main_part0_ops1,
    StableHlo.seq main_part1_ops0,
    Prog.lift (.customCall (Pipeline.entry 1) ()) ] : Prog (TpuEff nD τ sig (Elt F) (Pipeline.Sig Λ₀ (Fin 2) fun p => (pcfgs (F := F) p).Adm) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    Prog.lift (.customCall (Pipeline.entry 0) ()),
    StableHlo.seq hostOps1,
    Prog.lift (.customCall (Pipeline.entry 1) ()) ] : Prog (TpuEff nD τ sig (Elt F) (Pipeline.Sig Λ₀ (Fin 2) fun p => (pcfgs (F := F) p).Adm) .tc) PUnit) := by
  chain_rfl

/-- `main` is the chain of its items (`Pipeline.chain`): operation stretches, regions, loops and branches in
    order, a module-local function called from it a stretch of its own. Assembled from its 2 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    Prog.lift (.customCall (Pipeline.entry 0) ()),
    StableHlo.seq hostOps1,
    Prog.lift (.customCall (Pipeline.entry 1) ()) ] : Prog (TpuEff nD τ sig (Elt F) (Pipeline.Sig Λ₀ (Fin 2) fun p => (pcfgs (F := F) p).Adm) .tc) PUnit) :=
  (main_chain_windows (F := F) c).trans <| (main_chain_cut (F := F) c).trans <|
    (StableHlo.chain_cut_eq_whole (main_groups (F := F) c)).trans (main_chain_whole (F := F) c)

end Cert.KernelIdeal.Gen

end
-- ==== Proof.KernelIdealFrame.lean ====
/-
  The run of the program `KernelIdeal`: what each of its two pipelines' bodies does at a point, the buffer contents at every
  boundary of @main, and the run itself: it ends, the result array holds the last boundary's contents, the arguments
  are unchanged and every semaphore counter is zero.
-/
module

public import proofs.«01_k».proof.Proof.KernelIdealLaunch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__qkv_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1000x128 := Rect.unit (s := S1000x128) ![0, 0] S1000x128.size inb_S1000x128_S1000x128_0_0
abbrev r0_1 : Rect S128x128 := Rect.unit (s := S128x128) ![0, 0] S128x128.size inb_S128x128_S128x128_0_0

/-! ## What the body leaves in each output window's buffer -/

/-- Window 4's staging buffer after the body, from the input windows' blocks: its 1 store as pieces, LAST
    FIRST (Lib/Pipeline/FrameBody.lean `View.canon`; the payloads are the skeleton's). -/
def out0_4 (x0 : Vec F S1000x128 .f32) (x1 : Vec F S128x128 .f32) (x2 : Vec F S128x128 .f32) (x3 : Vec F S128x128 .f32) : Vec F S1000x128 .f32 :=
  View.canon [⟨r0_0, k0_pay1 (View.ld x0 r0_0) (View.ld x1 r0_1)⟩]

/-- Its stores tile the buffer (checked by evaluation), so they cover it. -/
theorem cover0_4 (p0 : Vec F S1000x128 .f32) (y : S1000x128.Idx) :
    ∃ pc ∈ ([⟨r0_0, p0⟩] : List (View.Piece (Elt F) S1000x128 .f32)), y ∈ pc.1.set :=
  View.cover_of_tiled [⟨r0_0, p0⟩] S1000x128.size (by rfl) y

/-- Window 5's staging buffer after the body, from the input windows' blocks: its 1 store as pieces, LAST
    FIRST (Lib/Pipeline/FrameBody.lean `View.canon`; the payloads are the skeleton's). -/
def out0_5 (x0 : Vec F S1000x128 .f32) (x1 : Vec F S128x128 .f32) (x2 : Vec F S128x128 .f32) (x3 : Vec F S128x128 .f32) : Vec F S1000x128 .f32 :=
  View.canon [⟨r0_0, k0_pay2 (View.ld x0 r0_0) (View.ld x2 r0_1)⟩]

/-- Its stores tile the buffer (checked by evaluation), so they cover it. -/
theorem cover0_5 (p0 : Vec F S1000x128 .f32) (y : S1000x128.Idx) :
    ∃ pc ∈ ([⟨r0_0, p0⟩] : List (View.Piece (Elt F) S1000x128 .f32)), y ∈ pc.1.set :=
  View.cover_of_tiled [⟨r0_0, p0⟩] S1000x128.size (by rfl) y

/-- Window 6's staging buffer after the body, from the input windows' blocks: its 1 store as pieces, LAST
    FIRST (Lib/Pipeline/FrameBody.lean `View.canon`; the payloads are the skeleton's). -/
def out0_6 (x0 : Vec F S1000x128 .f32) (x1 : Vec F S128x128 .f32) (x2 : Vec F S128x128 .f32) (x3 : Vec F S128x128 .f32) : Vec F S1000x128 .f32 :=
  View.canon [⟨r0_0, k0_pay3 (View.ld x0 r0_0) (View.ld x3 r0_1)⟩]

/-- Its stores tile the buffer (checked by evaluation), so they cover it. -/
theorem cover0_6 (p0 : Vec F S1000x128 .f32) (y : S1000x128.Idx) :
    ∃ pc ∈ ([⟨r0_0, p0⟩] : List (View.Piece (Elt F) S1000x128 .f32)), y ∈ pc.1.set :=
  View.cover_of_tiled [⟨r0_0, p0⟩] S1000x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S1000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1000x128 .f32) (harg5 : arg5.IsWhole) (arg6 : Memref sig .tc .vmem S1000x128 .f32) (harg6 : arg6.IsWhole) (arg7 : Memref sig .tc .vmem S1000x128 .f32) (harg7 : arg7.IsWhole)
    (x0 : Vec F S1000x128 .f32) (x1 : Vec F S128x128 .f32) (x2 : Vec F S128x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3) ∗ owns (c : Thread nD τ) arg7 fullShare (out0_6 x0 x1 x2 x3)) -∗ K ⟨⟩))
      ⊢ wp frame (wpE (defs₀ (F := F)) Variants.none c none) E (cc0__qkv_body i arg1 harg1 arg2 harg2 arg3 harg3 arg4 harg4 arg5 harg5 arg6 harg6 arg7 harg7) K := by
  simp only [cc0__qkv_body_eq_skeleton]; unfold cc0__qkv_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__epi_body` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1000x8 := Rect.unit (s := S1000x8) ![0, 0] S1000x8.size inb_S1000x8_S1000x8_0_0
abbrev r1_1 : Rect S8x128 := Rect.unit (s := S8x128) ![0, 0] S8x128.size inb_S8x128_S8x128_0_0
abbrev r1_2 : Rect S1000x128 := Rect.unit (s := S1000x128) ![0, 0] S1000x128.size inb_S1000x128_S1000x128_0_0
abbrev r1_3 : Rect S128x128 := Rect.unit (s := S128x128) ![0, 0] S128x128.size inb_S128x128_S128x128_0_0
abbrev r1_4 : Rect S1x128 := Rect.unit (s := S1x128) ![0, 0] S1x128.size inb_S1x128_S1x128_0_0
abbrev r1_5 : Rect S512x128 := Rect.unit (s := S512x128) ![0, 0] S512x128.size inb_S512x128_S512x128_0_0
abbrev r1_6 : Rect S1x512 := Rect.unit (s := S1x512) ![0, 0] S1x512.size inb_S1x512_S1x512_0_0
abbrev r1_7 : Rect S128x512 := Rect.unit (s := S128x512) ![0, 0] S128x512.size inb_S128x512_S128x512_0_0

/-! ## What the body leaves in each output window's buffer -/

/-! ### Values of the body that the stores' payloads, spelt out, would write more than once

    Each is a vector the body binds (often a part call's result), stated over the input windows' blocks and
    numbered on from the skeleton's payload functions (`k1_pay8` …, after `k1_pay7`), so that
    `out1_W` and the values after it name it instead of spelling it out (`unfold_out out1_W` opens a canon
    with them, `unfold_payloads` opens them with the payloads); the comment after each is the printed function's
    name for the value (a count appended where that name is bound again). -/

def k1_pay8 (x0 : Vec F S1000x128 .f32) (x1 : Vec F S1000x8 .f32) (x2 : Vec F S1000x128 .f32) (x3 : Vec F S128x128 .f32) (x4 : Vec F S1x128 .f32) (x5 : Vec F S1x128 .f32) (x6 : Vec F S512x128 .f32) (x7 : Vec F S1x512 .f32) (x8 : Vec F S128x512 .f32) (x9 : Vec F S1x128 .f32) (x10 : Vec F S1x128 .f32) (x11 : Vec F S1x128 .f32) (x12 : Vec F S8x128 .f32) : FVec F S1000x128 .f32 :=
  k1_pay2 (View.ld x1 r1_0) (View.ld x12 r1_1) (View.ld x0 r1_2) (View.ld x3 r1_3) (View.ld x2 r1_2) -- `v34`
def k1_pay9 (x0 : Vec F S1000x128 .f32) (x1 : Vec F S1000x8 .f32) (x2 : Vec F S1000x128 .f32) (x3 : Vec F S128x128 .f32) (x4 : Vec F S1x128 .f32) (x5 : Vec F S1x128 .f32) (x6 : Vec F S512x128 .f32) (x7 : Vec F S1x512 .f32) (x8 : Vec F S128x512 .f32) (x9 : Vec F S1x128 .f32) (x10 : Vec F S1x128 .f32) (x11 : Vec F S1x128 .f32) (x12 : Vec F S8x128 .f32) : FVec F S128 .f32 :=
  k1_pay3 (View.ld x4 r1_4) -- `v36`

/-- Window 13's staging buffer after the body, from the input windows' blocks: its 1 store as pieces, LAST
    FIRST (Lib/Pipeline/FrameBody.lean `View.canon`; the payloads are the skeleton's and the values stated above). -/
def out1_13 (x0 : Vec F S1000x128 .f32) (x1 : Vec F S1000x8 .f32) (x2 : Vec F S1000x128 .f32) (x3 : Vec F S128x128 .f32) (x4 : Vec F S1x128 .f32) (x5 : Vec F S1x128 .f32) (x6 : Vec F S512x128 .f32) (x7 : Vec F S1x512 .f32) (x8 : Vec F S128x512 .f32) (x9 : Vec F S1x128 .f32) (x10 : Vec F S1x128 .f32) (x11 : Vec F S1x128 .f32) (x12 : Vec F S8x128 .f32) : Vec F S1000x128 .f32 :=
  View.canon [⟨r1_2, k1_pay1 (k1_pay6 (k1_pay8 x0 x1 x2 x3 x4 x5 x6 x7 x8 x9 x10 x11 x12) (k1_pay9 x0 x1 x2 x3 x4 x5 x6 x7 x8 x9 x10 x11 x12) (View.ld x5 r1_4) (View.ld x6 r1_5) (View.ld x7 r1_6) (View.ld x8 r1_7) (View.ld x9 r1_4)) (k1_pay7 (k1_pay8 x0 x1 x2 x3 x4 x5 x6 x7 x8 x9 x10 x11 x12) (k1_pay9 x0 x1 x2 x3 x4 x5 x6 x7 x8 x9 x10 x11 x12) (View.ld x5 r1_4) (View.ld x6 r1_5) (View.ld x7 r1_6) (View.ld x8 r1_7) (View.ld x9 r1_4)) (View.ld x10 r1_4) (View.ld x11 r1_4)⟩]

/-- Its stores tile the buffer (checked by evaluation), so they cover it. -/
theorem cover1_13 (p0 : Vec F S1000x128 .f32) (y : S1000x128.Idx) :
    ∃ pc ∈ ([⟨r1_2, p0⟩] : List (View.Piece (Elt F) S1000x128 .f32)), y ∈ pc.1.set :=
  View.cover_of_tiled [⟨r1_2, p0⟩] S1000x128.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S1000x128 .f32) (harg1 : arg1.IsWhole) (arg2 : Memref sig .tc .vmem S1000x8 .f32) (harg2 : arg2.IsWhole) (arg3 : Memref sig .tc .vmem S1000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S1x512 .f32) (harg8 : arg8.IsWhole) (arg9 : Memref sig .tc .vmem S128x512 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S8x128 .f32) (harg13 : arg13.IsWhole) (arg14 : Memref sig .tc .vmem S1000x128 .f32) (harg14 : arg14.IsWhole)
    (x0 : Vec F S1000x128 .f32) (x1 : Vec F S1000x8 .f32) (x2 : Vec F S1000x128 .f32) (x3 : Vec F S128x128 .f32) (x4 : Vec F S1x128 .f32) (x5 : Vec F S1x128 .f32) (x6 : Vec F S512x128 .f32) (x7 : Vec F S1x512 .f32) (x8 : Vec F S128x512 .f32) (x9 : Vec F S1x128 .f32) (x10 : Vec F S1x128 .f32) (x11 : Vec F S1x128 .f32) (x12 : Vec F S8x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out1_13 x0 x1 x2 x3 x4 x5 x6 x7 x8 x9 x10 x11 x12)) -∗ K ⟨⟩))
      ⊢ wp frame (wpE (defs₀ (F := F)) Variants.none c none) E (cc1__epi_body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__epi_body_eq_skeleton]; unfold cc1__epi_body_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  refine (View.read_writes_eq_canon _ _ _ (cover1_13 _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel1 c Set.univ (grid1.coords t) _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_cst, main_v0, main_v1, main_v2, main_v3]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_c, main_v5, main_v6, main_c_0, main_v7, main_v8, main_v9, main_v10, main_v11, main_v12, main_c_1, main_v13, main_v14, main_c_2, main_v15, main_v16, main_v17, main_v18, main_v19, main_v20, main_c_3, main_v21, main_v22, main_c_4, main_v23, main_v24, main_v25, main_v26, main_v27, main_v28, main_v29, main_cst_5, main_v30, main_cst_6, main_v31, main_v32, main_v33, main_cst_7, main_v34, main_v35, main_v36, main_v37, main_v38, main_v39, main_cst_8, main_v40, main_v41, main_v42, main_v43, main_v44, main_v45, main_v46, main_v47, main_v48, main_v49]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)
theorem W4_main_arg7 (c : Dev nD) : W4 m ρ c (Proc.devRef .tc main_arg7) = m ((c : Thread nD τ).loc main_arg7) :=
  W4_args m ρ c main_arg7 (by decide)
theorem W4_main_arg8 (c : Dev nD) : W4 m ρ c (Proc.devRef .tc main_arg8) = m ((c : Thread nD τ).loc main_arg8) :=
  W4_args m ρ c main_arg8 (by decide)
theorem W4_main_arg9 (c : Dev nD) : W4 m ρ c (Proc.devRef .tc main_arg9) = m ((c : Thread nD τ).loc main_arg9) :=
  W4_args m ρ c main_arg9 (by decide)
theorem W4_main_arg10 (c : Dev nD) : W4 m ρ c (Proc.devRef .tc main_arg10) = m ((c : Thread nD τ).loc main_arg10) :=
  W4_args m ρ c main_arg10 (by decide)
theorem W4_main_arg11 (c : Dev nD) : W4 m ρ c (Proc.devRef .tc main_arg11) = m ((c : Thread nD τ).loc main_arg11) :=
  W4_args m ρ c main_arg11 (by decide)
theorem W4_main_arg12 (c : Dev nD) : W4 m ρ c (Proc.devRef .tc main_arg12) = m ((c : Thread nD τ).loc main_arg12) :=
  W4_args m ρ c main_arg12 (by decide)
theorem W4_main_arg13 (c : Dev nD) : W4 m ρ c (Proc.devRef .tc main_arg13) = m ((c : Thread nD τ).loc main_arg13) :=
  W4_args m ρ c main_arg13 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: every execution ends, the result array holds the last boundary's contents, every argument array is as
    launched and every semaphore counter is zero. -/
theorem run : θ_run defs (onTc (τ := τ) (main (F := F))) ⟨m, fun _ => 0, ρ⟩ (fun r => (∀ c : Dev nD,
      r.2.mem ((c.tc : Thread nD τ).loc main_v50) = W4 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨h c _ (mem_uc main_v50 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩), funext fun g => hz g (.inr (no_unscoped g.2))⟩)

end Cert.KernelIdeal.Gen

end
-- ==== Proof.Qkv.lean ====
/-
  What the first kernel leaves in its three output arrays: the input rows against the rows of each projection matrix.
-/
module

public import proofs.«01_k».proof.Proof.KernelIdealFrame
public import Idealize.ShloMosaic.Lib.Pointwise
public import Idealize.ShloMosaic.Lib.Pipeline.ValueKit

@[expose] public section

set_option maxRecDepth 16384

noncomputable section

namespace Cert.KernelIdeal.Value

open Idealize.ShloMosaic Idealize.ShloMosaic.Pointwise Idealize.ShloMosaic.Pipeline Cert.KernelIdeal Cert.KernelIdeal.Gen

/-- Rows of `x` against rows of `w`. -/
def proj (x : S10000x128.Idx → EReal) (w : S128x128.Idx → EReal) : S10000x128.Idx → EReal :=
  fun i => ∑ k : Fin 128, x (ix2 (i 0) k) * w (ix2 (i 1) k)

variable (V : (c : Dev nD) → (b : Ref sig .tc) → Buf (Elt Ideal) ((c.tc : Thread nD τ).loc b))

/-- Where each window's block stands: the row windows move with the point, the matrices do not. -/
theorem idx0 : ∀ t, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] := by decide +kernel

/-- The query array. -/
theorem arr0_4 (c : Dev nD) : (dat0 V c).arrAt 4 cfg0.N = proj (V c main_arg0) (V c main_arg2) := by
  refine (dat0 V c).arrAt_eq_of_covers 4 _ (by decide +kernel) fun t hf y => ?_
  blk_simp
  rw [after0_4]
  unfold out0_4 proj
  frame_out
  idx_vars y
  pointwise [k0_pay1]
  blk_point [iblk0, idx0 t]

/-- The key array. -/
theorem arr0_5 (c : Dev nD) : (dat0 V c).arrAt 5 cfg0.N = proj (V c main_arg0) (V c main_arg3) := by
  refine (dat0 V c).arrAt_eq_of_covers 5 _ (by decide +kernel) fun t hf y => ?_
  blk_simp
  rw [after0_5]
  unfold out0_5 proj
  frame_out
  idx_vars y
  pointwise [k0_pay2]
  blk_point [iblk0, idx0 t]

/-- The value array. -/
theorem arr0_6 (c : Dev nD) : (dat0 V c).arrAt 6 cfg0.N = proj (V c main_arg0) (V c main_arg4) := by
  refine (dat0 V c).arrAt_eq_of_covers 6 _ (by decide +kernel) fun t hf y => ?_
  blk_simp
  rw [after0_6]
  unfold out0_6 proj
  frame_out
  idx_vars y
  pointwise [k0_pay3]
  blk_point [iblk0, idx0 t]

end Cert.KernelIdeal.Value

end
-- ==== Proof.Scalars.lean ====
/-
  Arithmetic of the extended reals used by the value claim: the constants the two programs print, division by a
  square root against multiplication by a reciprocal root, and the softmax identity for one node and one head.
-/
module

public import Idealize.ShloMosaic.Lib.IdealHost
public import Idealize.ShloMosaic.PureOps.Ideal.Laws

@[expose] public section

noncomputable section

namespace Cert.Spec

open Idealize.ShloMosaic

/-- The word of the layer norms' small constant denotes a positive extended real. -/
theorem eps_pos : 0 < Ideal.ofBits .f32 0x3727C5AC#32 := by
  rw [show (0 : EReal) = ((0 : ℝ) : EReal) by norm_cast]
  simp [Ideal.ofBits, Ideal.ieee, -EReal.coe_mul]

/-- The word of the row length denotes the real 128. -/
theorem ofBits_128 : Ideal.ofBits .f32 0x43000000#32 = ((128 : ℝ) : EReal) := by
  simp [Ideal.ofBits, Ideal.ieee, -EReal.coe_mul]; norm_num

/-- The word of the score's divisor denotes the real 4. -/
theorem ofBits_four : Ideal.ofBits .f32 0x40800000#32 = ((4 : ℝ) : EReal) := by
  simp [Ideal.ofBits, Ideal.ieee, -EReal.coe_mul]; norm_num

/-- The word of the score's factor denotes the real 1/4. -/
theorem ofBits_quarter : Ideal.ofBits .f32 0x3E800000#32 = ((1 / 4 : ℝ) : EReal) := by
  simp [Ideal.ofBits, Ideal.ieee, -EReal.coe_mul]; norm_num

/-- The word of plus infinity denotes the top element. -/
theorem ofBits_top : Ideal.ofBits .f32 0x7F800000#32 = ⊤ := by simp [Ideal.ofBits, Ideal.ieee]

/-- The word of minus infinity denotes the bottom element. -/
theorem ofBits_bot : Ideal.ofBits .f32 0xFF800000#32 = ⊥ := by simp [Ideal.ofBits, Ideal.ieee]

/-- The square of an extended real is not negative. -/
theorem mul_self_nonneg' (x : EReal) : 0 ≤ x * x := by
  rcases le_total 0 x with h | h
  · exact mul_nonneg h h
  · have := mul_nonneg (EReal.neg_nonneg.2 h) (EReal.neg_nonneg.2 h)
    rwa [neg_mul_neg] at this

/-- A quotient of a nonnegative extended real by 128 is not negative. -/
theorem div_128_nonneg {x : EReal} (hx : 0 ≤ x) : 0 ≤ Ideal.div x (Ideal.ofBits .f32 0x43000000#32) := by
  rw [ofBits_128]
  have h0 : ((128 : ℝ) : EReal) ≠ 0 := by norm_num
  unfold Ideal.div
  rw [if_neg h0]
  refine mul_nonneg hx ?_
  rw [← EReal.coe_inv, EReal.coe_nonneg]
  norm_num

/-- Dividing by the square root of a positive extended real is multiplying by its reciprocal square root. -/
theorem div_sqrt {x y : EReal} (hy : 0 < y) : Ideal.div x (Ideal.sqrt y) = x * Ideal.rsqrt y := by
  induction y using EReal.rec with
  | bot => exact absurd hy (by simp)
  | top =>
    have e1 : Ideal.sqrt ⊤ = ⊤ := rfl
    have e2 : Ideal.rsqrt ⊤ = 0 := rfl
    rw [e1, e2]
    simp [Ideal.div]
  | coe r =>
    have hr : 0 < r := EReal.coe_pos.1 hy
    have hs : Real.sqrt r ≠ 0 := (Real.sqrt_pos.2 hr).ne'
    have hs' : ((Real.sqrt r : ℝ) : EReal) ≠ 0 := by exact_mod_cast hs
    have e1 : Ideal.sqrt (r : EReal) = ((Real.sqrt r : ℝ) : EReal) := if_neg (not_lt.2 hr.le)
    have e2 : Ideal.rsqrt (r : EReal) = (((Real.sqrt r)⁻¹ : ℝ) : EReal) := (if_neg (not_lt.2 hr.le)).trans (if_neg hr.ne')
    rw [e1, e2]
    unfold Ideal.div
    rw [if_neg hs', EReal.coe_inv]

/-- A real times 1/4 is that real divided by 4. -/
theorem mul_quarter (r : ℝ) : (r : EReal) * Ideal.ofBits .f32 0x3E800000#32 = Ideal.div (r : EReal) (Ideal.ofBits .f32 0x40800000#32) := by
  rw [ofBits_quarter, ofBits_four]
  have h0 : ((4 : ℝ) : EReal) ≠ 0 := by norm_num
  unfold Ideal.div
  rw [if_neg h0, ← EReal.coe_inv]
  norm_num

/-- A real divided by 4 is a real. -/
theorem div_four (r : ℝ) : Ideal.div (r : EReal) (Ideal.ofBits .f32 0x40800000#32) = ((r / 4 : ℝ) : EReal) := by
  rw [← mul_quarter, ofBits_quarter, ← EReal.coe_mul]
  congr 1; ring

/-- A finite sum of reals, in the extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A nonnegative real distributes over a finite sum of extended reals. -/
theorem sum_mul_real {ι : Type} (s : Finset ι) (f : ι → EReal) (r : ℝ) (hr : 0 ≤ r) :
    (∑ i ∈ s, f i) * (r : EReal) = ∑ i ∈ s, f i * (r : EReal) := by
  classical
  have h0 : (0 : EReal) ≤ (r : EReal) := EReal.coe_nonneg.2 hr
  induction s using Finset.induction_on with
  | empty => simp
  | insert a s ha ih =>
    rw [Finset.sum_insert ha, Finset.sum_insert ha, ← ih, mul_comm, EReal.left_distrib_of_nonneg_of_ne_top h0 (EReal.coe_ne_top r),
      mul_comm, mul_comm (r : EReal) (∑ i ∈ s, f i)]

/-- The reciprocal the kernel forms: one over a positive sum, zero otherwise. -/
def recip (x : EReal) : EReal := if 0 < x then Ideal.div 1 x else 0

/-- The reciprocal of a nonnegative real is a nonnegative real. -/
theorem recip_coe (r : ℝ) : recip (r : EReal) = ((if 0 < r then r⁻¹ else 0 : ℝ) : EReal) := by
  unfold recip
  by_cases h : 0 < r
  · have h' : (r : EReal) ≠ 0 := by exact_mod_cast h.ne'
    rw [if_pos (EReal.coe_pos.2 h), if_pos h]
    unfold Ideal.div
    rw [if_neg h', one_mul, EReal.coe_inv]
  · rw [if_neg (fun h' => h (EReal.coe_pos.1 h')), if_neg h]
    simp

/-- Softmax weights applied to values: weighting by exponentials and multiplying by the reciprocal of their sum gives
    what weighting by the normalised exponentials of the shifted scores gives. The values may be infinite. -/
theorem softmax {ι : Type} (s : Finset ι) (x : ι → ℝ) (c : ℝ) (v : ι → EReal) :
    (∑ i ∈ s, Ideal.exp (x i : EReal) * v i) * recip (∑ i ∈ s, Ideal.exp (x i : EReal))
      = ∑ i ∈ s, Ideal.div (Ideal.exp ((x i : EReal) - (c : EReal))) (∑ i ∈ s, Ideal.exp ((x i : EReal) - (c : EReal))) * v i := by
  rcases s.eq_empty_or_nonempty with rfl | hs
  · simp
  have e1 : ∑ i ∈ s, Ideal.exp (x i : EReal) = ((∑ i ∈ s, Real.exp (x i) : ℝ) : EReal) := by
    rw [← coe_sum]; rfl
  have e2 : ∑ i ∈ s, Ideal.exp ((x i : EReal) - (c : EReal)) = ((∑ i ∈ s, Real.exp (x i - c) : ℝ) : EReal) := by
    rw [← coe_sum]
    refine Finset.sum_congr rfl fun i _ => ?_
    rw [← EReal.coe_sub]; rfl
  have hp1 : 0 < ∑ i ∈ s, Real.exp (x i) := Finset.sum_pos (fun i _ => Real.exp_pos _) hs
  have hp2 : 0 < ∑ i ∈ s, Real.exp (x i - c) := Finset.sum_pos (fun i _ => Real.exp_pos _) hs
  have e3 : ∑ i ∈ s, Real.exp (x i - c) = (∑ i ∈ s, Real.exp (x i)) * Real.exp (-c) := by
    rw [Finset.sum_mul]
    exact Finset.sum_congr rfl fun i _ => by rw [← Real.exp_add, sub_eq_add_neg]
  rw [e1, e2, recip_coe, if_pos hp1, sum_mul_real _ _ _ (inv_nonneg.2 hp1.le)]
  refine Finset.sum_congr rfl fun i _ => ?_
  have h0 : ((∑ i ∈ s, Real.exp (x i - c) : ℝ) : EReal) ≠ 0 := by exact_mod_cast hp2.ne'
  unfold Ideal.div
  rw [if_neg h0, ← EReal.coe_sub]
  show ((Real.exp (x i) : ℝ) : EReal) * v i * _ = ((Real.exp (x i - c) : ℝ) : EReal) * _ * v i
  rw [mul_right_comm, ← EReal.coe_mul, ← EReal.coe_inv, ← EReal.coe_mul]
  congr 2
  rw [e3, sub_eq_add_neg, Real.exp_add, mul_inv]
  have := (Real.exp_pos (-c)).ne'
  field_simp

end Cert.Spec

end
-- ==== Proof.Rows.lean ====
/-
  One row of the layer after the attention: the residual, the two layer norms and the feed-forward part, as functions
  of the row. Both programs are shown to compute these.
-/
module

public import proofs.«01_k».proof.Proof.Scalars

@[expose] public section

noncomputable section

namespace Cert.Spec

open Idealize.ShloMosaic

/-- The mean of a row of 128. -/
def mean (x : Fin 128 → EReal) : EReal := Ideal.div (∑ i, x i) (Ideal.ofBits .f32 0x43000000#32)

/-- The mean square of a row's deviations from its mean. -/
def var (x : Fin 128 → EReal) : EReal :=
  Ideal.div (∑ i, (x i - mean x) * (x i - mean x)) (Ideal.ofBits .f32 0x43000000#32)

/-- A row's deviations over the root of their mean square (and the small constant). -/
def devs (x : Fin 128 → EReal) (j : Fin 128) : EReal :=
  (x j - mean x) * Ideal.rsqrt (var x + Ideal.ofBits .f32 0x3727C5AC#32)

/-- A layer norm of a row: scale `g`, offset `b`. -/
def ln (x g b : Fin 128 → EReal) (j : Fin 128) : EReal := devs x j * g j + b j

/-- The hidden units of the feed-forward part. -/
def hid (y : Fin 128 → EReal) (W1 : Fin 512 → Fin 128 → EReal) (b1 : Fin 512 → EReal) (k : Fin 512) : EReal :=
  max (∑ i, y i * W1 k i + b1 k) 0

/-- A row plus its feed-forward part. -/
def ffn (y : Fin 128 → EReal) (W1 : Fin 512 → Fin 128 → EReal) (b1 : Fin 512 → EReal) (W2 : Fin 128 → Fin 512 → EReal)
    (b2 : Fin 128 → EReal) (j : Fin 128) : EReal :=
  y j + (∑ k, hid y W1 b1 k * W2 j k + b2 j)

/-- A row of the input plus the attention's row through the output projection. -/
def resid (h a : Fin 128 → EReal) (Wo : Fin 128 → Fin 128 → EReal) (j : Fin 128) : EReal := h j + ∑ i, a i * Wo j i

/-- The row of the result. -/
def layer (h a : Fin 128 → EReal) (Wo : Fin 128 → Fin 128 → EReal) (g1 b1 : Fin 128 → EReal) (W1 : Fin 512 → Fin 128 → EReal)
    (c1 : Fin 512 → EReal) (W2 : Fin 128 → Fin 512 → EReal) (c2 g2 b2 : Fin 128 → EReal) : Fin 128 → EReal :=
  ln (ffn (ln (resid h a Wo) g1 b1) W1 c1 W2 c2) g2 b2

/-- The mean square is not negative. -/
theorem var_nonneg (x : Fin 128 → EReal) : 0 ≤ var x :=
  div_128_nonneg (Finset.sum_nonneg fun i _ => mul_self_nonneg' _)

/-- The deviations divided by the square root are the deviations times the reciprocal square root. -/
theorem devs_eq_div (x : Fin 128 → EReal) (j : Fin 128) :
    Ideal.div (x j - mean x) (Ideal.sqrt (var x + Ideal.ofBits .f32 0x3727C5AC#32)) = devs x j :=
  div_sqrt (lt_of_lt_of_le eps_pos (le_add_of_nonneg_left (var_nonneg x)))

end Cert.Spec

end
-- ==== Proof.Indexing.lean ====
/-
  Gathers of rows and scatters of rows read at an index: a gather of whole rows of a table reads the row its index
  word names (clamped into the table), and an update of a scatter of whole rows lands exactly where its index word says.
-/
module

public import Idealize.ShloMosaic.Lib.IdealHost
public import Idealize.ShloMosaic.Lib.Pointwise

@[expose] public section

set_option maxRecDepth 16384

noncomputable section

namespace Cert.Spec

open Idealize.ShloMosaic Idealize.ShloMosaic.Pointwise

/-- The row a gather reads for an index word: the word read signed, clamped into the table. -/
def clampRow (N : Nat) (hN : 0 < N) (w : BitVec 32) : Fin N := ⟨min w.toInt.toNat (N - 1), by omega⟩

/-- A gather of rows of a table of shape `N` by `D`. -/
theorem gather2 {α : Type} {N D E : Nat} (hN : 0 < N) (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1) (h7 : d.sliceSizes = ![1, D])
    (x : (⟨2, ![N, D]⟩ : Shape).Idx → α) (idx : IVec ⟨2, ![E, 1]⟩ 32) (e : Fin E) (c : Fin D) :
    Host.gather d x idx (ix2 e c) = x (ix2 (clampRow N hN (idx (ix2 e 0))) c) := by
  obtain ⟨f1, f2, f3, f4, f5, f6, f7, wf⟩ := d
  dsimp only at h1 h2 h3 h4 h5 h6 h7
  subst h1 h2 h3 h4 h5 h6 h7
  unfold Host.gather
  refine congrArg x (funext fun a => Fin.ext ?_)
  match a with
  | ⟨0, _⟩ =>
    have hs : ∀ k, GatherDims.siIdx (⟨[1], [0], [], [], [0], 1, ![1, D], wf⟩ : GatherDims ⟨2, ![N, D]⟩ ⟨2, ![E, 1]⟩ ⟨2, ![E, D]⟩) (ix2 e c) k = ix2 e 0 := by
      intro k
      funext b
      match b with
      | ⟨0, _⟩ => rfl
      | ⟨1, _⟩ => exact Subsingleton.elim (α := Fin 1) _ _
    show min (idx (GatherDims.siIdx _ (ix2 e c) _)).toInt.toNat (N - 1) + 0 + 0 = _
    rw [hs]
    rfl
  | ⟨1, _⟩ =>
    show 0 + 0 + c.val = c.val
    omega

/-- A gather of rows of a table of shape `N` by `A` by `D`. -/
theorem gather3 {α : Type} {N A D E : Nat} (hN : 0 < N) (d : GatherDims ⟨3, ![N, A, D]⟩ ⟨2, ![E, 1]⟩ ⟨3, ![E, A, D]⟩)
    (h1 : d.offsetDims = [1, 2]) (h2 : d.collapsedSliceDims = [0]) (h3 : d.operandBatchingDims = [])
    (h4 : d.startIndicesBatchingDims = []) (h5 : d.startIndexMap = [0]) (h6 : d.indexVectorDim = 1) (h7 : d.sliceSizes = ![1, A, D])
    (x : (⟨3, ![N, A, D]⟩ : Shape).Idx → α) (idx : IVec ⟨2, ![E, 1]⟩ 32) (e : Fin E) (t : Fin A) (c : Fin D) :
    Host.gather d x idx (ix3 e t c) = x (ix3 (clampRow N hN (idx (ix2 e 0))) t c) := by
  obtain ⟨f1, f2, f3, f4, f5, f6, f7, wf⟩ := d
  dsimp only at h1 h2 h3 h4 h5 h6 h7
  subst h1 h2 h3 h4 h5 h6 h7
  unfold Host.gather
  refine congrArg x (funext fun a => Fin.ext ?_)
  match a with
  | ⟨0, _⟩ =>
    have hs : ∀ k, GatherDims.siIdx (⟨[1, 2], [0], [], [], [0], 1, ![1, A, D], wf⟩ : GatherDims ⟨3, ![N, A, D]⟩ ⟨2, ![E, 1]⟩ ⟨3, ![E, A, D]⟩) (ix3 e t c) k = ix2 e 0 := by
      intro k
      funext b
      match b with
      | ⟨0, _⟩ => rfl
      | ⟨1, _⟩ => exact Subsingleton.elim (α := Fin 1) _ _
    show min (idx (GatherDims.siIdx _ (ix3 e t c) _)).toInt.toNat (N - 1) + 0 + 0 = _
    rw [hs]
    rfl
  | ⟨1, _⟩ =>
    show 0 + 0 + t.val = t.val
    omega
  | ⟨2, _⟩ =>
    show 0 + 0 + c.val = c.val
    omega

/-- Where an update lands, axis by axis. -/
theorem lands_iff {s si u : Shape} (d : ScatterDims s si u) (k : u.Idx) (idx : IVec si 32) (j : s.Idx) :
    d.resultIdx? k idx = some j ↔ ∀ a, d.start k idx a + d.window k a = ((j a).val : Int) := by
  unfold ScatterDims.resultIdx?
  constructor
  · intro h a
    split at h
    · next hh =>
      have := congrArg Fin.val (congrFun (Option.some.inj h) a)
      have h' := hh a
      dsimp only at this
      omega
    · cases h
  · intro h
    rw [dif_pos (fun a => by have := h a; have := (j a).isLt; omega)]
    refine congrArg some (funext fun a => Fin.ext ?_)
    have := h a
    dsimp only
    omega

/-- An update of a scatter of rows into a table of shape `N` by `D` lands where its index word and its column say. -/
theorem lands2 {N D E : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1) (idx : IVec ⟨2, ![E, 1]⟩ 32) (e : Fin E) (c : Fin D) (n : Fin N) (c' : Fin D) :
    d.resultIdx? (ix2 e c) idx = some (ix2 n c') ↔ (idx (ix2 e 0)).toInt = (n.val : Int) ∧ c = c' := by
  rw [lands_iff]
  obtain ⟨f1, f2, f3, f4, wf⟩ := d
  dsimp only at h1 h2 h3 h4
  subst h1 h2 h3 h4
  have hs : ∀ k, ScatterDims.siIdx (⟨[1], [0], [0], 1, wf⟩ : ScatterDims ⟨2, ![N, D]⟩ ⟨2, ![E, 1]⟩ ⟨2, ![E, D]⟩) (ix2 e c) k = ix2 e 0 := by
    intro k
    funext b
    match b with
    | ⟨0, _⟩ => rfl
    | ⟨1, _⟩ => exact Subsingleton.elim (α := Fin 1) _ _
  constructor
  · intro h
    have a0 : (idx (ScatterDims.siIdx _ (ix2 e c) _)).toInt + ((0 : Nat) : Int) = (n.val : Int) := h 0
    have a1 : (0 : Int) + (c.val : Int) = (c'.val : Int) := h 1
    rw [hs] at a0
    exact ⟨by omega, Fin.ext (by omega)⟩
  · rintro ⟨h0, rfl⟩ a
    match a with
    | ⟨0, _⟩ =>
      show (idx (ScatterDims.siIdx _ (ix2 e c) _)).toInt + ((0 : Nat) : Int) = (n.val : Int)
      rw [hs]; omega
    | ⟨1, _⟩ =>
      show (0 : Int) + (c.val : Int) = (c.val : Int)
      omega

/-- An update of a scatter of rows into a table of shape `N` by `A` by `D` lands where its index word and its columns say. -/
theorem lands3 {N A D E : Nat} (d : ScatterDims ⟨3, ![N, A, D]⟩ ⟨2, ![E, 1]⟩ ⟨3, ![E, A, D]⟩)
    (h1 : d.updateWindowDims = [1, 2]) (h2 : d.insertedWindowDims = [0]) (h3 : d.scatterDimsToOperandDims = [0])
    (h4 : d.indexVectorDim = 1) (idx : IVec ⟨2, ![E, 1]⟩ 32) (e : Fin E) (t : Fin A) (c : Fin D) (n : Fin N) (t' : Fin A) (c' : Fin D) :
    d.resultIdx? (ix3 e t c) idx = some (ix3 n t' c') ↔ (idx (ix2 e 0)).toInt = (n.val : Int) ∧ t = t' ∧ c = c' := by
  rw [lands_iff]
  obtain ⟨f1, f2, f3, f4, wf⟩ := d
  dsimp only at h1 h2 h3 h4
  subst h1 h2 h3 h4
  have hs : ∀ k, ScatterDims.siIdx (⟨[1, 2], [0], [0], 1, wf⟩ : ScatterDims ⟨3, ![N, A, D]⟩ ⟨2, ![E, 1]⟩ ⟨3, ![E, A, D]⟩) (ix3 e t c) k = ix2 e 0 := by
    intro k
    funext b
    match b with
    | ⟨0, _⟩ => rfl
    | ⟨1, _⟩ => exact Subsingleton.elim (α := Fin 1) _ _
  constructor
  · intro h
    have a0 : (idx (ScatterDims.siIdx _ (ix3 e t c) _)).toInt + ((0 : Nat) : Int) = (n.val : Int) := h 0
    have a1 : (0 : Int) + (t.val : Int) = (t'.val : Int) := h 1
    have a2 : (0 : Int) + (c.val : Int) = (c'.val : Int) := h 2
    rw [hs] at a0
    exact ⟨by omega, Fin.ext (by omega), Fin.ext (by omega)⟩
  · rintro ⟨h0, rfl, rfl⟩ a
    match a with
    | ⟨0, _⟩ =>
      show (idx (ScatterDims.siIdx _ (ix3 e t c) _)).toInt + ((0 : Nat) : Int) = (n.val : Int)
      rw [hs]; omega
    | ⟨1, _⟩ =>
      show (0 : Int) + (t.val : Int) = (t.val : Int)
      omega
    | ⟨2, _⟩ =>
      show (0 : Int) + (c.val : Int) = (c.val : Int)
      omega

end Cert.Spec

end
-- ==== Proof.Graph.lean ====
/-
  The attention over the graph's edges, as both programs' host operations and kernels are shown to compute it: the
  words of an edge, the rows they name, the projected scores, and a node's weighted sums.
-/
module

public import proofs.«01_k».proof.Proof.Rows
public import proofs.«01_k».proof.Proof.Indexing

@[expose] public section

set_option maxRecDepth 16384

noncomputable section

namespace Cert.Spec

open Idealize.ShloMosaic Idealize.ShloMosaic.Pointwise

/-- An index word as the programs read it: a negative one counts from the end. -/
def wrap (w : BitVec 32) : BitVec 32 := if w.slt 0#32 then w + 10000#32 else w

/-- The node a gather reads for an index word. -/
def node (w : BitVec 32) : Fin 10000 := clampRow 10000 (by decide) (wrap w)

/-- The column of head `t`'s entry `d`. -/
def flat (t : Fin 8) (d : Fin 16) : Fin 128 := ⟨t.val * 16 + d.val, by omega⟩

/-- A scatter that lands on a node names it: the gather at the same word reads that node. -/
theorem node_of_lands {w : BitVec 32} {n : Fin 10000} (h : w.toInt = (n.val : Int)) : node w = n := by
  have hn := n.isLt
  have hw : w.slt 0#32 = false := by
    rw [BitVec.slt]
    simp only [decide_eq_false_iff_not]
    rw [h]
    simp
  unfold node wrap
  rw [hw]
  apply Fin.ext
  show min w.toInt.toNat (10000 - 1) = n.val
  rw [h]
  omega

/-- The edges that land on node `n`. -/
def landing (dst : Fin 320000 → BitVec 32) (n : Fin 10000) : Finset (Fin 320000) :=
  Finset.univ.filter fun e => (dst e).toInt = (n.val : Int)

/-- An edge's unscaled score at a head: the source's key against the destination's query. -/
def score (k q : Fin 10000 → Fin 128 → EReal) (src dst : Fin 320000 → BitVec 32) (e : Fin 320000) (t : Fin 8) : EReal :=
  ∑ d : Fin 16, k (node (src e)) (flat t d) * q (node (dst e)) (flat t d)

/-- The head a column belongs to. -/
def headOf (j : Fin 128) : Fin 8 := ⟨j.val / 16, by omega⟩

/-- A column's place inside its head. -/
def inHead (j : Fin 128) : Fin 16 := ⟨j.val % 16, by omega⟩

/-- A column is its head's entry at its place. -/
theorem flat_headOf (j : Fin 128) : flat (headOf j) (inHead j) = j := by
  apply Fin.ext
  show j.val / 16 * 16 + j.val % 16 = j.val
  omega

/-- The head of a head's entry. -/
theorem headOf_flat (t : Fin 8) (d : Fin 16) : headOf (flat t d) = t := by
  apply Fin.ext
  show (t.val * 16 + d.val) / 16 = t.val
  omega

/-- A node's attention row: the exponentials of the scaled scores weight the values, over the sum of the exponentials. -/
def attend (k q v : Fin 10000 → Fin 128 → EReal) (src dst : Fin 320000 → BitVec 32) (n : Fin 10000) (j : Fin 128) : EReal :=
  (∑ e ∈ landing dst n, Ideal.exp (score k q src dst e (headOf j) * Ideal.ofBits .f32 0x3E800000#32) * v (node (src e)) j)
    * recip (∑ e ∈ landing dst n, Ideal.exp (score k q src dst e (headOf j) * Ideal.ofBits .f32 0x3E800000#32))

/-- Rows of `x` against rows of `w`. -/
def project (x : Fin 10000 → Fin 128 → EReal) (w : Fin 128 → Fin 128 → EReal) (n : Fin 10000) (j : Fin 128) : EReal :=
  ∑ i, x n i * w j i

/-- Scatter-adding rows of heads onto zeros: a node's entry is the sum over the edges that land on it. -/
theorem scatter2 (d : ScatterDims ⟨2, ![10000, 8]⟩ ⟨2, ![320000, 1]⟩ ⟨2, ![320000, 8]⟩)
    (h1 : d.updateWindowDims = [1]) (h2 : d.insertedWindowDims = [0]) (h3 : d.scatterDimsToOperandDims = [0])
    (h4 : d.indexVectorDim = 1) (x : FVec Ideal ⟨2, ![10000, 8]⟩ .f32) (hx : ∀ i, x i = 0) (idx : IVec ⟨2, ![320000, 1]⟩ 32)
    (u : FVec Ideal ⟨2, ![320000, 8]⟩ .f32) (n : Fin 10000) (t : Fin 8) :
    Host.scatterAdd d x idx u (ix2 n t) = ∑ e ∈ landing (fun e => idx (ix2 e 0)) n, u (ix2 e t) := by
  show x (ix2 n t) + ∑ j ∈ Finset.univ.filter (fun j => d.resultIdx? j idx = some (ix2 n t)), u j = _
  rw [hx, zero_add]
  symm
  refine Finset.sum_bij (fun e _ => ix2 e t) (fun e he => ?_) (fun e _ e' _ h => congrFun h 0) (fun j hj => ?_) (fun _ _ => rfl)
  · rw [Finset.mem_filter]
    exact ⟨Finset.mem_univ _, (lands2 d h1 h2 h3 h4 idx e t n t).2 ⟨(Finset.mem_filter.1 he).2, rfl⟩⟩
  · obtain ⟨e, t', rfl⟩ : ∃ e t', j = ix2 e t' := ⟨j 0, j 1, eq_ix2 j⟩
    have h := (lands2 d h1 h2 h3 h4 idx e t' n t).1 (Finset.mem_filter.1 hj).2
    exact ⟨e, Finset.mem_filter.2 ⟨Finset.mem_univ _, h.1⟩, by rw [h.2]⟩

/-- Scatter-adding rows of heads by columns onto zeros, likewise. -/
theorem scatter3 (d : ScatterDims ⟨3, ![10000, 8, 16]⟩ ⟨2, ![320000, 1]⟩ ⟨3, ![320000, 8, 16]⟩)
    (h1 : d.updateWindowDims = [1, 2]) (h2 : d.insertedWindowDims = [0]) (h3 : d.scatterDimsToOperandDims = [0])
    (h4 : d.indexVectorDim = 1) (x : FVec Ideal ⟨3, ![10000, 8, 16]⟩ .f32) (hx : ∀ i, x i = 0) (idx : IVec ⟨2, ![320000, 1]⟩ 32)
    (u : FVec Ideal ⟨3, ![320000, 8, 16]⟩ .f32) (n : Fin 10000) (t : Fin 8) (c : Fin 16) :
    Host.scatterAdd d x idx u (ix3 n t c) = ∑ e ∈ landing (fun e => idx (ix2 e 0)) n, u (ix3 e t c) := by
  show x (ix3 n t c) + ∑ j ∈ Finset.univ.filter (fun j => d.resultIdx? j idx = some (ix3 n t c)), u j = _
  rw [hx, zero_add]
  symm
  refine Finset.sum_bij (fun e _ => ix3 e t c) (fun e he => ?_) (fun e _ e' _ h => congrFun h 0) (fun j hj => ?_) (fun _ _ => rfl)
  · rw [Finset.mem_filter]
    exact ⟨Finset.mem_univ _, (lands3 d h1 h2 h3 h4 idx e t c n t c).2 ⟨(Finset.mem_filter.1 he).2, rfl, rfl⟩⟩
  · obtain ⟨e, t', c', rfl⟩ : ∃ e t' c', j = ix3 e t' c' := ⟨j 0, j 1, j 2, eq_ix3 j⟩
    have h := (lands3 d h1 h2 h3 h4 idx e t' c' n t c).1 (Finset.mem_filter.1 hj).2
    exact ⟨e, Finset.mem_filter.2 ⟨Finset.mem_univ _, h.1⟩, by rw [h.2.1, h.2.2]⟩

end Cert.Spec

end
-- ==== Proof.Edges.lean ====
/-
  The kernel program's host operations between its two kernels: what the second kernel's operands hold, entry by entry.
-/
module

public import proofs.«01_k».proof.Proof.KernelIdealFrame
public import proofs.«01_k».proof.Proof.Graph
public import Idealize.ShloMosaic.Lib.Pointwise
public import Idealize.ShloMosaic.Lib.StableHlo.ReadAt

@[expose] public section

set_option maxRecDepth 16384

noncomputable section

namespace Cert.KernelIdeal.Value

open Idealize.ShloMosaic Idealize.ShloMosaic.Pointwise Cert.KernelIdeal Cert.KernelIdeal.Gen Cert.Spec

/-- The index column a gather reads: each word wrapped. -/
def wrapped (x : IVec S320000 32) : IVec S320000x1 32 :=
  broadcastInDim S320000x1 ![0] bcast_S320000_S320000x1_0 (select (cmpi .slt x (broadcastInDim S320000 ![] bcast_S_S320000 (constantI S_ 32 0#32)))
    (addi x (broadcastInDim S320000 ![] bcast_S_S320000 (constantI S_ 32 10000#32))) x)

/-- The rows of a table the wrapped words name, by head and column. -/
def rowsOf (x : FVec Ideal S10000x128 .f32) (i : IVec S320000 32) : FVec Ideal S320000x8x16 .f32 :=
  shapeCast _ (Host.gather gather_S10000x128_S320000x1_S320000x128_1_0_n_n_0_1_1128 x (wrapped i)) shapeCasts_S320000x128_S320000x8x16

/-- The exponentials of the scaled scores. -/
def expScore (k q : FVec Ideal S10000x128 .f32) (s d : IVec S320000 32) : FVec Ideal S320000x8 .f32 :=
  Host.exp (mulf (Host.reduceAdd (mulf (rowsOf k s) (rowsOf q d)) (constant S_ .f32 0x00000000#32) reducesTo_S320000x8x16_S320000x8_d2 h_S_)
    (broadcastInDim S320000x8 ![] bcast_S_S320000x8 (constant S_ .f32 0x3E800000#32)))

/-- The sums of the exponentials per node. -/
def sums (k q : FVec Ideal S10000x128 .f32) (s d : IVec S320000 32) : FVec Ideal S10000x8 .f32 :=
  Host.scatterAdd scatter_S10000x8_S320000x1_S320000x8_1_0_0_1 (broadcastInDim S10000x8 ![] bcast_S_S10000x8 (constant S_ .f32 0x00000000#32))
    (broadcastInDim S320000x1 ![0] bcast_S320000_S320000x1_0 d) (expScore k q s d)

/-- The weighted sums of values per node. -/
def weighted (k q v : FVec Ideal S10000x128 .f32) (s d : IVec S320000 32) : FVec Ideal S10000x128 .f32 :=
  shapeCast _ (Host.scatterAdd scatter_S10000x8x16_S320000x1_S320000x8x16_12_0_0_1
    (broadcastInDim S10000x8x16 ![] bcast_S_S10000x8x16 (constant S_ .f32 0x00000000#32))
    (broadcastInDim S320000x1 ![0] bcast_S320000_S320000x1_0 d)
    (mulf (broadcastInDim S320000x8x16 ![0, 1, 2] bcast_S320000x8x1_S320000x8x16_0_1_2
      (broadcastInDim S320000x8x1 ![0, 1] bcast_S320000x8_S320000x8x1_0_1 (expScore k q s d))) (rowsOf v s))) shapeCasts_S10000x8x16_S10000x128

/-- A wrapped word at an edge. -/
theorem wrapped_apply (x : IVec S320000 32) (e : Fin 320000) (z : Fin 1) : wrapped x (ix2 e z) = wrap (x (ix1 e)) := by
  unfold wrap
  pointwise [wrapped]
  generalize x (ix1 e) = w
  unfold Scalar.select IntOp.cmpi IntOp.addi
  cases h : w.slt 0#32 <;> simp [h]

/-- A gathered row at a head and column. -/
theorem rowsOf_apply (x : FVec Ideal S10000x128 .f32) (i : IVec S320000 32) (e : Fin 320000) (t : Fin 8) (d : Fin 16) :
    rowsOf x i (ix3 e t d) = x (ix2 (node (i (ix1 e))) (flat t d)) := by
  have h : rowsOf x i (ix3 e t d) = Host.gather gather_S10000x128_S320000x1_S320000x128_1_0_n_n_0_1_1128 x (wrapped i) (ix2 e (flat t d)) := by
    unfold rowsOf flat
    pointwise
  rw [h, gather2 (by decide) _ rfl rfl rfl rfl rfl rfl rfl, wrapped_apply]
  rfl

/-- An exponential of a score. -/
theorem expScore_apply (k q : FVec Ideal S10000x128 .f32) (s d : IVec S320000 32) (e : Fin 320000) (t : Fin 8) :
    expScore k q s d (ix2 e t) = Ideal.exp (score (fun n j => k (ix2 n j)) (fun n j => q (ix2 n j)) (fun e => s (ix1 e)) (fun e => d (ix1 e)) e t
      * Ideal.ofBits .f32 0x3E800000#32) := by
  unfold score
  simp only [← rowsOf_apply]
  pointwise [expScore]

/-- A sum of exponentials. -/
theorem sums_apply (k q : FVec Ideal S10000x128 .f32) (s d : IVec S320000 32) (n : Fin 10000) (t : Fin 8) :
    sums k q s d (ix2 n t) = ∑ e ∈ landing (fun e => d (ix1 e)) n, expScore k q s d (ix2 e t) := by
  unfold sums
  rw [scatter2 _ rfl rfl rfl rfl _ (fun i => by idx_vars i; pointwise)]
  refine Finset.sum_congr ?_ fun _ _ => rfl
  congr 1
  funext e
  pointwise

/-- A weighted sum. -/
theorem weighted_apply (k q v : FVec Ideal S10000x128 .f32) (s d : IVec S320000 32) (n : Fin 10000) (t : Fin 8) (c : Fin 16) :
    weighted k q v s d (ix2 n (flat t c)) = ∑ e ∈ landing (fun e => d (ix1 e)) n, expScore k q s d (ix2 e t) * v (ix2 (node (s (ix1 e))) (flat t c)) := by
  have h : ∀ x : FVec Ideal S10000x8x16 .f32, shapeCast S10000x128 x shapeCasts_S10000x8x16_S10000x128 (ix2 n (flat t c)) = x (ix3 n t c) := by
    intro x
    unfold flat
    pointwise
  unfold weighted
  rw [h, scatter3 _ rfl rfl rfl rfl _ (fun i => by idx_vars i; pointwise)]
  refine Finset.sum_congr ?_ fun e _ => ?_
  · congr 1
    funext e
    pointwise
  · rw [← rowsOf_apply v s e t c]
    pointwise

variable (m : (ℓ : Loc nD τ sig) → Buf (Elt Ideal) ℓ) (ρ : Dev nD → PrngReg)

set_option maxHeartbeats 1000000 in
/-- The weight sums the second kernel reads. -/
theorem W3_sums (c : Dev nD) : W3 m ρ c (Proc.devRef .tc main_v36)
    = sums (W2 m ρ c (Proc.devRef .tc main_v4_1)) (W2 m ρ c (Proc.devRef .tc main_v4_0)) (W2 m ρ c (Proc.devRef .tc main_v1)) (W2 m ρ c (Proc.devRef .tc main_v3)) := by
  unfold W3 hostOps1
  after_reads_simp
  rfl

set_option maxHeartbeats 1000000 in
/-- The weighted sums the second kernel reads. -/
theorem W3_weighted (c : Dev nD) : W3 m ρ c (Proc.devRef .tc main_v43)
    = weighted (W2 m ρ c (Proc.devRef .tc main_v4_1)) (W2 m ρ c (Proc.devRef .tc main_v4_0)) (W2 m ρ c (Proc.devRef .tc main_v4_2)) (W2 m ρ c (Proc.devRef .tc main_v1)) (W2 m ρ c (Proc.devRef .tc main_v3)) := by
  unfold W3 hostOps1
  after_reads_simp
  rfl

end Cert.KernelIdeal.Value

end
-- ==== Proof.EpiloguePay.lean ====
/-
  What the second kernel's body stores at one entry of its block: the layer's row, from the block's rows.
-/
module

public import proofs.«01_k».proof.Proof.Rows
public import proofs.«01_k».proof.Proof.Gen.KernelIdeal.Skeleton
public import Idealize.ShloMosaic.Lib.Pointwise

@[expose] public section

set_option maxRecDepth 16384

noncomputable section

namespace Cert.KernelIdeal.Value

open Idealize.ShloMosaic Idealize.ShloMosaic.Pointwise Cert.KernelIdeal Cert.KernelIdeal.Gen Cert.Spec

/-- The first layer norm's deviations, from the block's rows. -/
theorem pay2 (es : Vec Ideal S1000x8 .f32) (ex : Vec Ideal S8x128 .f32) (an : Vec Ideal S1000x128 .f32) (Wo : Vec Ideal S128x128 .f32)
    (h : Vec Ideal S1000x128 .f32) (r : Fin 1000) (j : Fin 128) :
    k1_pay2 es ex an Wo h (ix2 r j)
      = devs (resid (fun i => h (ix2 r i)) (fun i => an (ix2 r i) * ∑ t, recip (es (ix2 r t)) * ex (ix2 t i)) (fun p i => Wo (ix2 p i))) j := by
  unfold devs var mean resid recip
  pointwise [k1_pay2]

/-- The row after the feed-forward part, from the first norm's deviations. -/
theorem pay4 (x : FVec Ideal S1000x128 .f32) (g : FVec Ideal S128 .f32) (b : Vec Ideal S1x128 .f32) (W1 : Vec Ideal S512x128 .f32)
    (c1 : Vec Ideal S1x512 .f32) (W2 : Vec Ideal S128x512 .f32) (c2 : Vec Ideal S1x128 .f32) (r : Fin 1000) (j : Fin 128) :
    k1_pay4 x g b W1 c1 W2 c2 (ix2 r j)
      = ffn (fun i => x (ix2 r i) * g (ix1 i) + b (ix2 0 i)) (fun k i => W1 (ix2 k i)) (fun k => c1 (ix2 0 k)) (fun p k => W2 (ix2 p k)) (fun p => c2 (ix2 0 p)) j := by
  unfold ffn hid
  pointwise [k1_pay4]

/-- The mean of that row. -/
theorem pay5 (x : FVec Ideal S1000x128 .f32) (g : FVec Ideal S128 .f32) (b : Vec Ideal S1x128 .f32) (W1 : Vec Ideal S512x128 .f32)
    (c1 : Vec Ideal S1x512 .f32) (W2 : Vec Ideal S128x512 .f32) (c2 : Vec Ideal S1x128 .f32) (r : Fin 1000) (z : Fin 1) :
    k1_pay5 x g b W1 c1 W2 c2 (ix2 r z) = mean (fun i => k1_pay4 x g b W1 c1 W2 c2 (ix2 r i)) := by
  unfold mean
  pointwise [k1_pay5]

/-- The second norm's deviations over their root. -/
theorem pay67 (x : FVec Ideal S1000x128 .f32) (g : FVec Ideal S128 .f32) (b : Vec Ideal S1x128 .f32) (W1 : Vec Ideal S512x128 .f32)
    (c1 : Vec Ideal S1x512 .f32) (W2 : Vec Ideal S128x512 .f32) (c2 g2 b2 : Vec Ideal S1x128 .f32) (r : Fin 1000) (j : Fin 128) :
    k1_pay1 (k1_pay6 x g b W1 c1 W2 c2) (k1_pay7 x g b W1 c1 W2 c2) g2 b2 (ix2 r j)
      = ln (fun i => k1_pay4 x g b W1 c1 W2 c2 (ix2 r i)) (fun i => g2 (ix2 0 i)) (fun i => b2 (ix2 0 i)) j := by
  unfold ln devs var
  simp only [← pay5 x g b W1 c1 W2 c2 r 0]
  pointwise [k1_pay1, k1_pay6, k1_pay7]

end Cert.KernelIdeal.Value

end
-- ==== Proof.Epilogue.lean ====
/-
  What the second kernel leaves in its output array: each row is the layer's row, from the arrays it reads.
-/
module

public import proofs.«01_k».proof.Proof.KernelIdealFrame
public import proofs.«01_k».proof.Proof.EpiloguePay
public import Idealize.ShloMosaic.Lib.Pointwise
public import Idealize.ShloMosaic.Lib.Pipeline.ValueKit

@[expose] public section

set_option maxRecDepth 16384

noncomputable section

namespace Cert.KernelIdeal.Value

open Idealize.ShloMosaic Idealize.ShloMosaic.Pointwise Idealize.ShloMosaic.Pipeline Cert.KernelIdeal Cert.KernelIdeal.Gen Cert.Spec

variable (V : (c : Dev nD) → (b : Ref sig .tc) → Buf (Elt Ideal) ((c.tc : Thread nD τ).loc b))

/-- Where each window's block stands: the row windows move with the point, the parameters do not. -/
theorem idx1 : ∀ t, win1_0.index t = ![t.val, 0] ∧ win1_1.index t = ![t.val, 0] ∧ win1_2.index t = ![t.val, 0] ∧ win1_3.index t = ![0, 0]
    ∧ win1_4.index t = ![0, 0] ∧ win1_5.index t = ![0, 0] ∧ win1_6.index t = ![0, 0] ∧ win1_7.index t = ![0, 0] ∧ win1_8.index t = ![0, 0]
    ∧ win1_9.index t = ![0, 0] ∧ win1_10.index t = ![0, 0] ∧ win1_11.index t = ![0, 0] ∧ win1_12.index t = ![0, 0]
    ∧ win1_13.index t = ![t.val, 0] := by decide +kernel

/-- The layer over whole arrays: weighted sums `an`, weight sums `es`, the input `h`, the parameters, the head table `ex`. -/
def layerAll (an : S10000x128.Idx → EReal) (es : S10000x8.Idx → EReal) (h : S10000x128.Idx → EReal) (Wo : S128x128.Idx → EReal)
    (g1 b1 : S1x128.Idx → EReal) (W1 : S512x128.Idx → EReal) (c1 : S1x512.Idx → EReal) (W2 : S128x512.Idx → EReal)
    (c2 g2 b2 : S1x128.Idx → EReal) (ex : S8x128.Idx → EReal) : S10000x128.Idx → EReal :=
  fun i => layer (fun j => h (ix2 (i 0) j)) (fun j => an (ix2 (i 0) j) * ∑ t : Fin 8, recip (es (ix2 (i 0) t)) * ex (ix2 t j))
    (fun p j => Wo (ix2 p j)) (fun j => g1 (ix2 0 j)) (fun j => b1 (ix2 0 j)) (fun k j => W1 (ix2 k j)) (fun k => c1 (ix2 0 k))
    (fun p k => W2 (ix2 p k)) (fun j => c2 (ix2 0 j)) (fun j => g2 (ix2 0 j)) (fun j => b2 (ix2 0 j)) (i 1)

/-- The body's result at one entry, over its blocks. -/
theorem pay (an : Vec Ideal S1000x128 .f32) (es : Vec Ideal S1000x8 .f32) (h : Vec Ideal S1000x128 .f32) (Wo : Vec Ideal S128x128 .f32)
    (g1 b1 : Vec Ideal S1x128 .f32) (W1 : Vec Ideal S512x128 .f32) (c1 : Vec Ideal S1x512 .f32) (W2 : Vec Ideal S128x512 .f32)
    (c2 g2 b2 : Vec Ideal S1x128 .f32) (ex : Vec Ideal S8x128 .f32) (r : Fin 1000) (j : Fin 128) :
    k1_pay1 (k1_pay6 (k1_pay2 es ex an Wo h) (k1_pay3 g1) b1 W1 c1 W2 c2) (k1_pay7 (k1_pay2 es ex an Wo h) (k1_pay3 g1) b1 W1 c1 W2 c2) g2 b2 (ix2 r j)
      = layer (fun j => h (ix2 r j)) (fun j => an (ix2 r j) * ∑ t : Fin 8, recip (es (ix2 r t)) * ex (ix2 t j))
    (fun p j => Wo (ix2 p j)) (fun j => g1 (ix2 0 j)) (fun j => b1 (ix2 0 j)) (fun k j => W1 (ix2 k j)) (fun k => c1 (ix2 0 k))
    (fun p k => W2 (ix2 p k)) (fun j => c2 (ix2 0 j)) (fun j => g2 (ix2 0 j)) (fun j => b2 (ix2 0 j)) j := by
  rw [pay67]
  unfold layer
  congr 1
  funext i
  rw [pay4]
  congr 1
  funext i'
  rw [pay2]
  unfold ln
  congr 2
  pointwise [k1_pay3]

/-- Window 0's block holds its array's rows at the place of the output block's row. -/
theorem rows0 (c : Dev nD) (t : Fin cfg1.grid.N) (y0 : Fin 1000) (y1 : Fin 128) (j : Fin 128) :
    iblk1 V c 0 t (ix2 y0 j) = V c main_v43 (ix2 ((((View.whole main_v50).slice (win1_13.rect t)).emb (ix2 y0 y1)) 0) j) := by
  blk_ext [iblk1, idx1 t]

/-- Window 1's block holds its array's rows at the place of the output block's row. -/
theorem rows1 (c : Dev nD) (t : Fin cfg1.grid.N) (y0 : Fin 1000) (y1 : Fin 128) (j : Fin 8) :
    iblk1 V c 1 t (ix2 y0 j) = V c main_v36 (ix2 ((((View.whole main_v50).slice (win1_13.rect t)).emb (ix2 y0 y1)) 0) j) := by
  blk_ext [iblk1, idx1 t]

/-- Window 2's block holds its array's rows at the place of the output block's row. -/
theorem rows2 (c : Dev nD) (t : Fin cfg1.grid.N) (y0 : Fin 1000) (y1 : Fin 128) (j : Fin 128) :
    iblk1 V c 2 t (ix2 y0 j) = V c main_arg0 (ix2 ((((View.whole main_v50).slice (win1_13.rect t)).emb (ix2 y0 y1)) 0) j) := by
  blk_ext [iblk1, idx1 t]

/-- Window 3's block is its whole array. -/
theorem mat3 (c : Dev nD) (t : Fin cfg1.grid.N) (i : Fin 128) (j : Fin 128) : iblk1 V c 3 t (ix2 i j) = V c main_arg5 (ix2 i j) := by
  blk_ext [iblk1, idx1 t]

/-- Window 4's block is its whole array. -/
theorem mat4 (c : Dev nD) (t : Fin cfg1.grid.N) (i : Fin 1) (j : Fin 128) : iblk1 V c 4 t (ix2 i j) = V c main_v44 (ix2 i j) := by
  blk_ext [iblk1, idx1 t]

/-- Window 5's block is its whole array. -/
theorem mat5 (c : Dev nD) (t : Fin cfg1.grid.N) (i : Fin 1) (j : Fin 128) : iblk1 V c 5 t (ix2 i j) = V c main_v45 (ix2 i j) := by
  blk_ext [iblk1, idx1 t]

/-- Window 6's block is its whole array. -/
theorem mat6 (c : Dev nD) (t : Fin cfg1.grid.N) (i : Fin 512) (j : Fin 128) : iblk1 V c 6 t (ix2 i j) = V c main_arg8 (ix2 i j) := by
  blk_ext [iblk1, idx1 t]

/-- Window 7's block is its whole array. -/
theorem mat7 (c : Dev nD) (t : Fin cfg1.grid.N) (i : Fin 1) (j : Fin 512) : iblk1 V c 7 t (ix2 i j) = V c main_v46 (ix2 i j) := by
  blk_ext [iblk1, idx1 t]

/-- Window 8's block is its whole array. -/
theorem mat8 (c : Dev nD) (t : Fin cfg1.grid.N) (i : Fin 128) (j : Fin 512) : iblk1 V c 8 t (ix2 i j) = V c main_arg10 (ix2 i j) := by
  blk_ext [iblk1, idx1 t]

/-- Window 9's block is its whole array. -/
theorem mat9 (c : Dev nD) (t : Fin cfg1.grid.N) (i : Fin 1) (j : Fin 128) : iblk1 V c 9 t (ix2 i j) = V c main_v47 (ix2 i j) := by
  blk_ext [iblk1, idx1 t]

/-- Window 10's block is its whole array. -/
theorem mat10 (c : Dev nD) (t : Fin cfg1.grid.N) (i : Fin 1) (j : Fin 128) : iblk1 V c 10 t (ix2 i j) = V c main_v48 (ix2 i j) := by
  blk_ext [iblk1, idx1 t]

/-- Window 11's block is its whole array. -/
theorem mat11 (c : Dev nD) (t : Fin cfg1.grid.N) (i : Fin 1) (j : Fin 128) : iblk1 V c 11 t (ix2 i j) = V c main_v49 (ix2 i j) := by
  blk_ext [iblk1, idx1 t]

/-- Window 12's block is its whole array. -/
theorem mat12 (c : Dev nD) (t : Fin cfg1.grid.N) (i : Fin 8) (j : Fin 128) : iblk1 V c 12 t (ix2 i j) = V c main_cst (ix2 i j) := by
  blk_ext [iblk1, idx1 t]

/-- The output block keeps the column. -/
theorem col (t : Fin cfg1.grid.N) (y0 : Fin 1000) (y1 : Fin 128) : (((View.whole main_v50).slice (win1_13.rect t)).emb (ix2 y0 y1)) 1 = y1 := by
  apply Fin.ext
  blk_simp [idx1 t]

/-- The result array of the second kernel. -/
theorem arr1_13 (c : Dev nD) : (dat1 V c).arrAt 13 cfg1.N
    = layerAll (V c main_v43) (V c main_v36) (V c main_arg0) (V c main_arg5) (V c main_v44) (V c main_v45) (V c main_arg8) (V c main_v46)
        (V c main_arg10) (V c main_v47) (V c main_v48) (V c main_v49) (V c main_cst) := by
  refine (dat1 V c).arrAt_eq_of_covers 13 _ (by decide +kernel) fun t hf y => ?_
  blk_simp
  rw [after1_13]
  unfold out1_13 k1_pay8 k1_pay9
  frame_out
  idx_vars y
  refine (pay _ _ _ _ _ _ _ _ _ _ _ _ _ _ _).trans ?_
  simp only [rows0 V c t y0 y1, rows1 V c t y0 y1, rows2 V c t y0 y1, mat3, mat4, mat5, mat6, mat7, mat8, mat9, mat10, mat11, mat12]
  unfold layerAll
  rw [col t y0 y1]

end Cert.KernelIdeal.Value

end
-- ==== Proof.KernelValue.lean ====
/-
  The kernel program's result, entry by entry, from its arguments.
-/
module

public import proofs.«01_k».proof.Proof.Qkv
public import proofs.«01_k».proof.Proof.Edges
public import proofs.«01_k».proof.Proof.Epilogue

@[expose] public section

set_option maxRecDepth 16384

noncomputable section

namespace Cert.KernelIdeal.Value

open Idealize.ShloMosaic Idealize.ShloMosaic.Pointwise Cert.KernelIdeal Cert.KernelIdeal.Gen Cert.Spec

/-- The head table's words: one where the column belongs to the head, zero elsewhere. -/
theorem lit0_eq : ∀ i : Fin 1024, lit0 i = if i.val / 128 = i.val % 128 / 16 then 0x3F800000#32 else 0x00000000#32 := by
  decide +kernel

/-- The sum over the heads of factors against a column of the head table is the factor of the column's head. -/
theorem sum_heads (f : Fin 8 → EReal) (j : Fin 128) :
    ∑ t : Fin 8, f t * (FloatOps.ofBits (F := Ideal) .f32 (lit0 (S8x128.rowMajor (ix2 t j))) : EReal) = f (headOf j) := by
  have h : ∀ t : Fin 8, f t * (FloatOps.ofBits (F := Ideal) .f32 (lit0 (S8x128.rowMajor (ix2 t j))) : EReal) = if t = headOf j then f t else 0 := by
    intro t
    have hr : (S8x128.rowMajor (ix2 t j)).val = t.val * 128 + j.val := by
      rw [Shape.rowMajor_val_two]
      rfl
    rw [show lit0 (S8x128.rowMajor (ix2 t j)) = _ from lit0_eq (S8x128.rowMajor (ix2 t j))]
    have hj := j.isLt
    have h1 : (S8x128.rowMajor (ix2 t j)).val / 128 = t.val := by rw [hr]; omega
    have h2 : (S8x128.rowMajor (ix2 t j)).val % 128 / 16 = j.val / 16 := by rw [hr]; omega
    rw [h1, h2]
    by_cases e : t = headOf j
    · rw [if_pos e, if_pos (by rw [e]; rfl)]
      show f t * Ideal.ofBits .f32 0x3F800000#32 = f t
      rw [Ideal.ofBits_one_f32, mul_one]
    · rw [if_neg e, if_neg (show ¬ t.val = j.val / 16 from fun h => e (Fin.ext h))]
      show f t * Ideal.ofBits .f32 0x00000000#32 = 0
      rw [Ideal.ofBits_zero_f32, mul_zero]
  rw [Finset.sum_congr rfl fun t _ => h t, Finset.sum_ite_eq' Finset.univ (headOf j) f, if_pos (Finset.mem_univ _)]

/-- The graph part's weighted sums over its sums: the attention's row. -/
theorem attend_apply (k q v : FVec Ideal S10000x128 .f32) (s d : IVec S320000 32) (n : Fin 10000) (j : Fin 128) :
    weighted k q v s d (ix2 n j) * recip (sums k q s d (ix2 n (headOf j)))
      = attend (fun n j => k (ix2 n j)) (fun n j => q (ix2 n j)) (fun n j => v (ix2 n j)) (fun e => s (ix1 e)) (fun e => d (ix1 e)) n j := by
  obtain ⟨t, i, rfl⟩ : ∃ t i, j = flat t i := ⟨headOf j, inHead j, (flat_headOf j).symm⟩
  unfold attend
  rw [headOf_flat, weighted_apply, sums_apply]
  simp only [expScore_apply]

variable (m : (ℓ : Loc nD τ sig) → Buf (Elt Ideal) ℓ) (ρ : Dev nD → PrngReg) (c : Dev nD)

/-- The source words. -/
theorem W2_src (e : Fin 320000) : W2 m ρ c (Proc.devRef .tc main_v1) (ix1 e) = m ((c.tc : Thread nD τ).loc main_arg1) (ix2 0 e) := by
  rw [W2_of_ne m ρ c main_v1 (by decide)]
  unfold W1 hostOps0
  after_reads_at

/-- The destination words. -/
theorem W2_dst (e : Fin 320000) : W2 m ρ c (Proc.devRef .tc main_v3) (ix1 e) = m ((c.tc : Thread nD τ).loc main_arg1) (ix2 1 e) := by
  rw [W2_of_ne m ρ c main_v3 (by decide)]
  unfold W1 hostOps0
  after_reads_at

/-- The head table. -/
theorem W3_table (i : S8x128.Idx) : W3 m ρ c (Proc.devRef .tc main_cst) i = FloatOps.ofBits (F := Ideal) .f32 (lit0 (S8x128.rowMajor i)) := by
  rw [W3_of m ρ c main_cst (by decide), W2_of_ne m ρ c main_cst (by decide)]
  unfold W1 hostOps0
  after_reads_simp

/-- The query array after the first kernel. -/
theorem W2_q : W2 m ρ c (Proc.devRef .tc main_v4_0) = proj (m ((c.tc : Thread nD τ).loc main_arg0)) (m ((c.tc : Thread nD τ).loc main_arg2)) := by
  refine (W2_arr m ρ c 4).trans ((arr0_4 (V1 m ρ) c).trans ?_)
  rw [show V1 m ρ c main_arg0 = _ from W1_args m ρ c main_arg0 (by decide), show V1 m ρ c main_arg2 = _ from W1_args m ρ c main_arg2 (by decide)]

/-- The key array after the first kernel. -/
theorem W2_k : W2 m ρ c (Proc.devRef .tc main_v4_1) = proj (m ((c.tc : Thread nD τ).loc main_arg0)) (m ((c.tc : Thread nD τ).loc main_arg3)) := by
  refine (W2_arr m ρ c 5).trans ((arr0_5 (V1 m ρ) c).trans ?_)
  rw [show V1 m ρ c main_arg0 = _ from W1_args m ρ c main_arg0 (by decide), show V1 m ρ c main_arg3 = _ from W1_args m ρ c main_arg3 (by decide)]

/-- The value array after the first kernel. -/
theorem W2_v : W2 m ρ c (Proc.devRef .tc main_v4_2) = proj (m ((c.tc : Thread nD τ).loc main_arg0)) (m ((c.tc : Thread nD τ).loc main_arg4)) := by
  refine (W2_arr m ρ c 6).trans ((arr0_6 (V1 m ρ) c).trans ?_)
  rw [show V1 m ρ c main_arg0 = _ from W1_args m ρ c main_arg0 (by decide), show V1 m ρ c main_arg4 = _ from W1_args m ρ c main_arg4 (by decide)]

/-- The row argument 6 becomes, at the second kernel. -/
theorem W3_arg6 (j : Fin 128) : W3 m ρ c (Proc.devRef .tc main_v44) (ix2 0 j) = m ((c.tc : Thread nD τ).loc main_arg6) (ix1 j) := by
  rw [← W2_args m ρ c main_arg6 (by decide)]
  unfold W3 hostOps1
  after_reads_at

/-- The row argument 7 becomes, at the second kernel. -/
theorem W3_arg7 (j : Fin 128) : W3 m ρ c (Proc.devRef .tc main_v45) (ix2 0 j) = m ((c.tc : Thread nD τ).loc main_arg7) (ix1 j) := by
  rw [← W2_args m ρ c main_arg7 (by decide)]
  unfold W3 hostOps1
  after_reads_at

/-- The row argument 9 becomes, at the second kernel. -/
theorem W3_arg9 (j : Fin 512) : W3 m ρ c (Proc.devRef .tc main_v46) (ix2 0 j) = m ((c.tc : Thread nD τ).loc main_arg9) (ix1 j) := by
  rw [← W2_args m ρ c main_arg9 (by decide)]
  unfold W3 hostOps1
  after_reads_at

/-- The row argument 11 becomes, at the second kernel. -/
theorem W3_arg11 (j : Fin 128) : W3 m ρ c (Proc.devRef .tc main_v47) (ix2 0 j) = m ((c.tc : Thread nD τ).loc main_arg11) (ix1 j) := by
  rw [← W2_args m ρ c main_arg11 (by decide)]
  unfold W3 hostOps1
  after_reads_at

/-- The row argument 12 becomes, at the second kernel. -/
theorem W3_arg12 (j : Fin 128) : W3 m ρ c (Proc.devRef .tc main_v48) (ix2 0 j) = m ((c.tc : Thread nD τ).loc main_arg12) (ix1 j) := by
  rw [← W2_args m ρ c main_arg12 (by decide)]
  unfold W3 hostOps1
  after_reads_at

/-- The row argument 13 becomes, at the second kernel. -/
theorem W3_arg13 (j : Fin 128) : W3 m ρ c (Proc.devRef .tc main_v49) (ix2 0 j) = m ((c.tc : Thread nD τ).loc main_arg13) (ix1 j) := by
  rw [← W2_args m ρ c main_arg13 (by decide)]
  unfold W3 hostOps1
  after_reads_at

/-- The keys the graph part reads, by row and column. -/
theorem keys_eq : (fun (n : Fin 10000) (j : Fin 128) => (W2 m ρ c (Proc.devRef .tc main_v4_1) : S10000x128.Idx → EReal) (ix2 n j)) = project (fun n i => m ((c.tc : Thread nD τ).loc main_arg0) (ix2 n i)) (fun j i => m ((c.tc : Thread nD τ).loc main_arg3) (ix2 j i)) := by
  funext n j
  exact congrFun (W2_k m ρ c) (ix2 n j)

/-- The queries the graph part reads, by row and column. -/
theorem queries_eq : (fun (n : Fin 10000) (j : Fin 128) => (W2 m ρ c (Proc.devRef .tc main_v4_0) : S10000x128.Idx → EReal) (ix2 n j)) = project (fun n i => m ((c.tc : Thread nD τ).loc main_arg0) (ix2 n i)) (fun j i => m ((c.tc : Thread nD τ).loc main_arg2) (ix2 j i)) := by
  funext n j
  exact congrFun (W2_q m ρ c) (ix2 n j)

/-- The values the graph part reads, by row and column. -/
theorem values_eq : (fun (n : Fin 10000) (j : Fin 128) => (W2 m ρ c (Proc.devRef .tc main_v4_2) : S10000x128.Idx → EReal) (ix2 n j)) = project (fun n i => m ((c.tc : Thread nD τ).loc main_arg0) (ix2 n i)) (fun j i => m ((c.tc : Thread nD τ).loc main_arg4) (ix2 j i)) := by
  funext n j
  exact congrFun (W2_v m ρ c) (ix2 n j)

/-- The source words the graph part reads, by edge. -/
theorem sources_eq : (fun e : Fin 320000 => (W2 m ρ c (Proc.devRef .tc main_v1) : S320000.Idx → BitVec 32) (ix1 e)) = fun e => m ((c.tc : Thread nD τ).loc main_arg1) (ix2 0 e) := by
  funext e
  exact W2_src m ρ c e

/-- The destination words the graph part reads, by edge. -/
theorem targets_eq : (fun e : Fin 320000 => (W2 m ρ c (Proc.devRef .tc main_v3) : S320000.Idx → BitVec 32) (ix1 e)) = fun e => m ((c.tc : Thread nD τ).loc main_arg1) (ix2 1 e) := by
  funext e
  exact W2_dst m ρ c e

/-- The weighted sums the second kernel reads. -/
def readWeighted : S10000x128.Idx → EReal := W3 m ρ c (Proc.devRef .tc main_v43)

/-- The sums of the exponentials the second kernel reads. -/
def readSums : S10000x8.Idx → EReal := W3 m ρ c (Proc.devRef .tc main_v36)

/-- The head table the second kernel reads. -/
def readTable : S8x128.Idx → EReal := W3 m ρ c (Proc.devRef .tc main_cst)

/-- The weighted sums at the second kernel, a column times its head's reciprocal sum: the attention's row. -/
theorem W3_attend (n : Fin 10000) (j : Fin 128) :
    readWeighted m ρ c (ix2 n j) * ∑ t : Fin 8, recip (readSums m ρ c (ix2 n t)) * readTable m ρ c (ix2 t j)
      = attend (project (fun n i => m ((c.tc : Thread nD τ).loc main_arg0) (ix2 n i)) (fun j i => m ((c.tc : Thread nD τ).loc main_arg3) (ix2 j i)))
          (project (fun n i => m ((c.tc : Thread nD τ).loc main_arg0) (ix2 n i)) (fun j i => m ((c.tc : Thread nD τ).loc main_arg2) (ix2 j i)))
          (project (fun n i => m ((c.tc : Thread nD τ).loc main_arg0) (ix2 n i)) (fun j i => m ((c.tc : Thread nD τ).loc main_arg4) (ix2 j i)))
          (fun e => m ((c.tc : Thread nD τ).loc main_arg1) (ix2 0 e)) (fun e => m ((c.tc : Thread nD τ).loc main_arg1) (ix2 1 e)) n j := by
  have ht : ∀ t, readTable m ρ c (ix2 t j) = FloatOps.ofBits (F := Ideal) .f32 (lit0 (S8x128.rowMajor (ix2 t j))) := fun t => W3_table m ρ c (ix2 t j)
  rw [Finset.sum_congr rfl fun t _ => congrArg (recip (readSums m ρ c (ix2 n t)) * ·) (ht t),
    sum_heads (fun t => recip (readSums m ρ c (ix2 n t))), show readSums m ρ c = _ from W3_sums m ρ c,
    show readWeighted m ρ c = _ from W3_weighted m ρ c]
  refine (attend_apply _ _ _ _ _ n j).trans ?_
  rw [keys_eq, queries_eq, values_eq, sources_eq, targets_eq]

/-- The kernel program's result at an entry. -/
theorem result_apply (n : Fin 10000) (j : Fin 128) :
    W4 m ρ c (Proc.devRef .tc main_v50) (ix2 n j)
      = layer (fun i => m ((c.tc : Thread nD τ).loc main_arg0) (ix2 n i))
          (attend (project (fun n i => m ((c.tc : Thread nD τ).loc main_arg0) (ix2 n i)) (fun j i => m ((c.tc : Thread nD τ).loc main_arg3) (ix2 j i)))
            (project (fun n i => m ((c.tc : Thread nD τ).loc main_arg0) (ix2 n i)) (fun j i => m ((c.tc : Thread nD τ).loc main_arg2) (ix2 j i)))
            (project (fun n i => m ((c.tc : Thread nD τ).loc main_arg0) (ix2 n i)) (fun j i => m ((c.tc : Thread nD τ).loc main_arg4) (ix2 j i)))
            (fun e => m ((c.tc : Thread nD τ).loc main_arg1) (ix2 0 e)) (fun e => m ((c.tc : Thread nD τ).loc main_arg1) (ix2 1 e)) n)
          (fun p i => m ((c.tc : Thread nD τ).loc main_arg5) (ix2 p i)) (fun i => m ((c.tc : Thread nD τ).loc main_arg6) (ix1 i)) (fun i => m ((c.tc : Thread nD τ).loc main_arg7) (ix1 i)) (fun k i => m ((c.tc : Thread nD τ).loc main_arg8) (ix2 k i)) (fun k => m ((c.tc : Thread nD τ).loc main_arg9) (ix1 k))
          (fun p k => m ((c.tc : Thread nD τ).loc main_arg10) (ix2 p k)) (fun i => m ((c.tc : Thread nD τ).loc main_arg11) (ix1 i)) (fun i => m ((c.tc : Thread nD τ).loc main_arg12) (ix1 i)) (fun i => m ((c.tc : Thread nD τ).loc main_arg13) (ix1 i)) j := by
  rw [show W4 m ρ c (Proc.devRef .tc main_v50) = _ from (W4_arr m ρ c 13).trans (arr1_13 (V3 m ρ) c)]
  unfold layerAll
  rw [show V3 m ρ c main_arg0 = _ from W3_args m ρ c main_arg0 (by decide), show V3 m ρ c main_arg5 = _ from W3_args m ρ c main_arg5 (by decide),
    show V3 m ρ c main_arg8 = _ from W3_args m ρ c main_arg8 (by decide), show V3 m ρ c main_arg10 = _ from W3_args m ρ c main_arg10 (by decide)]
  have ha := fun j => W3_attend m ρ c n j
  have h6 := W3_arg6 m ρ c
  have h7 := W3_arg7 m ρ c
  have h9 := W3_arg9 m ρ c
  have h11 := W3_arg11 m ρ c
  have h12 := W3_arg12 m ρ c
  have h13 := W3_arg13 m ρ c
  show layer (fun j => m ((c.tc : Thread nD τ).loc main_arg0) (ix2 n j))
      (fun j => readWeighted m ρ c (ix2 n j) * ∑ t : Fin 8, recip (readSums m ρ c (ix2 n t)) * readTable m ρ c (ix2 t j))
      (fun p j => m ((c.tc : Thread nD τ).loc main_arg5) (ix2 p j)) (fun j => W3 m ρ c (Proc.devRef .tc main_v44) (ix2 0 j)) (fun j => W3 m ρ c (Proc.devRef .tc main_v45) (ix2 0 j))
      (fun k j => m ((c.tc : Thread nD τ).loc main_arg8) (ix2 k j)) (fun k => W3 m ρ c (Proc.devRef .tc main_v46) (ix2 0 k)) (fun p k => m ((c.tc : Thread nD τ).loc main_arg10) (ix2 p k))
      (fun j => W3 m ρ c (Proc.devRef .tc main_v47) (ix2 0 j)) (fun j => W3 m ρ c (Proc.devRef .tc main_v48) (ix2 0 j))
      (fun j => W3 m ρ c (Proc.devRef .tc main_v49) (ix2 0 j)) j = _
  simp only [ha, h6, h7, h9, h11, h12, h13]

end Cert.KernelIdeal.Value

end
-- ==== Proof.Attention.lean ====
/-
  Two forms of a node's attention row: the softmax of the shifted scores weighting the values, and the
  exponentials of the scores themselves weighting them, divided by their sum afterwards.
-/
module

public import proofs.«01_k».proof.Proof.Scalars
public import proofs.«01_k».proof.Proof.Graph

@[expose] public section

noncomputable section

namespace Cert.Spec

open Idealize.ShloMosaic

/-- An edge's shifted exponential at a head: its scaled score less its destination's shift. -/
def shifted (k q : Fin 10000 → Fin 128 → EReal) (src dst : Fin 320000 → BitVec 32) (c : Fin 10000 → Fin 8 → EReal) (e : Fin 320000) (t : Fin 8) : EReal :=
  Ideal.exp (Ideal.div (score k q src dst e t) (Ideal.ofBits .f32 0x40800000#32) - c (node (dst e)) t)

/-- A node's attention row by softmax: each edge's share of its destination's sum weights its source's value. -/
def attendShifted (k q v : Fin 10000 → Fin 128 → EReal) (src dst : Fin 320000 → BitVec 32) (c : Fin 10000 → Fin 8 → EReal) (n : Fin 10000) (j : Fin 128) : EReal :=
  ∑ e ∈ landing dst n, Ideal.div (shifted k q src dst c e (headOf j)) (∑ e' ∈ landing dst (node (dst e)), shifted k q src dst c e' (headOf j)) * v (node (src e)) j

/-- A projection of real rows is real. -/
theorem project_real {x : Fin 10000 → Fin 128 → EReal} {w : Fin 128 → Fin 128 → EReal} (hx : ∀ n i, ∃ r : ℝ, x n i = r) (hw : ∀ j i, ∃ r : ℝ, w j i = r)
    (n : Fin 10000) (j : Fin 128) : ∃ r : ℝ, project x w n j = r := by
  choose a ha using hx
  choose b hb using hw
  refine ⟨∑ i, a n i * b j i, ?_⟩
  rw [← coe_sum]
  exact Finset.sum_congr rfl fun i _ => by rw [ha, hb, EReal.coe_mul]

/-- A score of real keys and queries is real. -/
theorem score_real {k q : Fin 10000 → Fin 128 → EReal} (hk : ∀ n j, ∃ r : ℝ, k n j = r) (hq : ∀ n j, ∃ r : ℝ, q n j = r)
    (src dst : Fin 320000 → BitVec 32) (e : Fin 320000) (t : Fin 8) : ∃ r : ℝ, score k q src dst e t = r := by
  choose a ha using hk
  choose b hb using hq
  refine ⟨∑ d : Fin 16, a (node (src e)) (flat t d) * b (node (dst e)) (flat t d), ?_⟩
  rw [← coe_sum]
  exact Finset.sum_congr rfl fun i _ => by rw [ha, hb, EReal.coe_mul]

/-- Over real scores and any real shifts the two forms agree. -/
theorem attendShifted_eq {k q : Fin 10000 → Fin 128 → EReal} (v : Fin 10000 → Fin 128 → EReal) (src dst : Fin 320000 → BitVec 32)
    {c : Fin 10000 → Fin 8 → EReal} (hs : ∀ e t, ∃ r : ℝ, score k q src dst e t = r) (hc : ∀ n t, ∃ r : ℝ, c n t = r) (n : Fin 10000) (j : Fin 128) :
    attendShifted k q v src dst c n j = attend k q v src dst n j := by
  choose f hf using hs
  choose b hb using hc
  have hl : ∀ e ∈ landing dst n, node (dst e) = n := fun e he => node_of_lands (Finset.mem_filter.1 he).2
  have hsh : ∀ e ∈ landing dst n, shifted k q src dst c e (headOf j)
      = Ideal.exp (((f e (headOf j) / 4 : ℝ) : EReal) - ((b n (headOf j) : ℝ) : EReal)) := by
    intro e he
    unfold shifted
    rw [hf, div_four, hl e he, hb]
  have hk : ∀ e, score k q src dst e (headOf j) * Ideal.ofBits .f32 0x3E800000#32 = ((f e (headOf j) / 4 : ℝ) : EReal) := by
    intro e
    rw [hf, mul_quarter, div_four]
  unfold attend
  simp only [hk]
  rw [softmax (landing dst n) (fun e => f e (headOf j) / 4) (b n (headOf j)) (fun e => v (node (src e)) j)]
  refine Finset.sum_congr rfl fun e he => ?_
  rw [hl e he, hsh e he, Finset.sum_congr rfl hsh]

end Cert.Spec

end
-- ==== Proof.RefRows.lean ====
/-
  The reference's last part, entry by entry: the layer norms and the feed-forward part over the residual rows.
-/
module

public import Idealize.ShloMosaic.Lib.Pointwise
public import proofs.«01_k».proof.Proof.Rows
public import proofs.«01_k».proof.Proof.Gen.ReferenceIdeal.Run

@[expose] public section

set_option maxRecDepth 16384

noncomputable section

namespace Cert.ReferenceIdeal.Value

open Idealize.ShloMosaic Idealize.ShloMosaic.Pointwise Cert.ReferenceIdeal Cert.ReferenceIdeal.Gen Cert.Spec

/-- The reference's layer norm of an array: scale `g`, offset `b`. -/
def norms (x : FVec Ideal S10000x128 .f32) (g b : FVec Ideal S128 .f32) : FVec Ideal S10000x128 .f32 :=
  addf (mulf (Host.divf (subf x (broadcastInDim S10000x128 ![0, 1] bcast_S10000x1_S10000x128_0_1 (Host.divf (broadcastInDim S10000x1 ![0] bcast_S10000_S10000x1_0 (Host.reduceAdd x (constant S_ .f32 0x00000000#32) reducesTo_S10000x128_S10000_d1 h_S_)) (broadcastInDim S10000x1 ![] bcast_S_S10000x1 (constant S_ .f32 0x43000000#32))))) (broadcastInDim S10000x128 ![0, 1] bcast_S10000x1_S10000x128_0_1 (Host.sqrt (addf (Host.divf (broadcastInDim S10000x1 ![0] bcast_S10000_S10000x1_0 (Host.reduceAdd (mulf (subf x (broadcastInDim S10000x128 ![0, 1] bcast_S10000x1_S10000x128_0_1 (Host.divf (broadcastInDim S10000x1 ![0] bcast_S10000_S10000x1_0 (Host.reduceAdd x (constant S_ .f32 0x00000000#32) reducesTo_S10000x128_S10000_d1 h_S_)) (broadcastInDim S10000x1 ![] bcast_S_S10000x1 (constant S_ .f32 0x43000000#32))))) (subf x (broadcastInDim S10000x128 ![0, 1] bcast_S10000x1_S10000x128_0_1 (Host.divf (broadcastInDim S10000x1 ![0] bcast_S10000_S10000x1_0 (Host.reduceAdd x (constant S_ .f32 0x00000000#32) reducesTo_S10000x128_S10000_d1 h_S_)) (broadcastInDim S10000x1 ![] bcast_S_S10000x1 (constant S_ .f32 0x43000000#32)))))) (constant S_ .f32 0x00000000#32) reducesTo_S10000x128_S10000_d1 h_S_)) (broadcastInDim S10000x1 ![] bcast_S_S10000x1 (constant S_ .f32 0x43000000#32))) (broadcastInDim S10000x1 ![] bcast_S_S10000x1 (constant S_ .f32 0x3727C5AC#32)))))) (broadcastInDim S10000x128 ![0, 1] bcast_S1x128_S10000x128_0_1 (broadcastInDim S1x128 ![1] bcast_S128_S1x128_1 g))) (broadcastInDim S10000x128 ![0, 1] bcast_S1x128_S10000x128_0_1 (broadcastInDim S1x128 ![1] bcast_S128_S1x128_1 b))

/-- A layer norm at an entry. -/
theorem norms_apply (x : FVec Ideal S10000x128 .f32) (g b : FVec Ideal S128 .f32) (n : Fin 10000) (j : Fin 128) :
    norms x g b (ix2 n j) = ln (fun i => x (ix2 n i)) (fun i => g (ix1 i)) (fun i => b (ix1 i)) j := by
  unfold ln
  rw [← devs_eq_div]
  unfold var mean
  pointwise [norms]

/-- The reference's feed-forward part with its residual. -/
def ffns (y : FVec Ideal S10000x128 .f32) (W1 : FVec Ideal S512x128 .f32) (c1 : FVec Ideal S512 .f32) (W2 : FVec Ideal S128x512 .f32) (c2 : FVec Ideal S128 .f32) : FVec Ideal S10000x128 .f32 :=
  addf y (addf (Host.dotGeneral dot_S10000x512_S512x128_S10000x128_1_0_0_1_n_n none (maximumf (addf (Host.dotGeneral dot_S10000x128_S128x512_S10000x512_1_0_0_1_n_n none y (transpose S128x512 [1, 0] W1 transposes_S512x128_S128x512_1_0)) (broadcastInDim S10000x512 ![0, 1] bcast_S1x512_S10000x512_0_1 (broadcastInDim S1x512 ![1] bcast_S512_S1x512_1 c1))) (broadcastInDim S10000x512 ![] bcast_S_S10000x512 (constant S_ .f32 0x00000000#32))) (transpose S512x128 [1, 0] W2 transposes_S128x512_S512x128_1_0)) (broadcastInDim S10000x128 ![0, 1] bcast_S1x128_S10000x128_0_1 (broadcastInDim S1x128 ![1] bcast_S128_S1x128_1 c2)))

/-- The feed-forward part at an entry. -/
theorem ffns_apply (y : FVec Ideal S10000x128 .f32) (W1 : FVec Ideal S512x128 .f32) (c1 : FVec Ideal S512 .f32) (W2 : FVec Ideal S128x512 .f32)
    (c2 : FVec Ideal S128 .f32) (n : Fin 10000) (j : Fin 128) :
    ffns y W1 c1 W2 c2 (ix2 n j) = ffn (fun i => y (ix2 n i)) (fun k i => W1 (ix2 k i)) (fun k => c1 (ix1 k)) (fun p k => W2 (ix2 p k)) (fun i => c2 (ix1 i)) j := by
  unfold ffn hid
  pointwise [ffns]

/-- The reference's attention with its residual, over the per-head arrays. -/
def resids (h : FVec Ideal S10000x128 .f32) (a : FVec Ideal S10000x8x16 .f32) (Wo : FVec Ideal S128x128 .f32) : FVec Ideal S10000x128 .f32 :=
  addf h (Host.dotGeneral dot_S10000x128_S128x128_S10000x128_1_0_0_1_n_n none (shapeCast _ a shapeCasts_S10000x8x16_S10000x128) (transpose S128x128 [1, 0] Wo transposes_S128x128_S128x128_1_0))

/-- The residual at an entry. -/
theorem resids_apply (h : FVec Ideal S10000x128 .f32) (a : FVec Ideal S10000x8x16 .f32) (Wo : FVec Ideal S128x128 .f32) (n : Fin 10000) (j : Fin 128) :
    resids h a Wo (ix2 n j) = resid (fun i => h (ix2 n i)) (fun i => shapeCast S10000x128 a shapeCasts_S10000x8x16_S10000x128 (ix2 n i)) (fun p i => Wo (ix2 p i)) j := by
  unfold resid
  have hh : ∀ b : FVec Ideal S10000x128 .f32, addf h (Host.dotGeneral dot_S10000x128_S128x128_S10000x128_1_0_0_1_n_n none b (transpose S128x128 [1, 0] Wo transposes_S128x128_S128x128_1_0)) (ix2 n j)
      = h (ix2 n j) + ∑ i, b (ix2 n i) * Wo (ix2 j i) := by
    intro b
    pointwise
  exact hh _

end Cert.ReferenceIdeal.Value

end
-- ==== Proof.RefEdges.lean ====
/-
  The reference's attention over the edges, entry by entry: projections by head, gathered rows, scores, shifted
  exponentials, each edge's share of its destination's sum, and the shares weighting the values.
-/
module

public import Idealize.ShloMosaic.Lib.Pointwise
public import proofs.«01_k».proof.Proof.Attention
public import proofs.«01_k».proof.Proof.RefRows

@[expose] public section

set_option maxRecDepth 16384

noncomputable section

namespace Cert.ReferenceIdeal.Value

open Idealize.ShloMosaic Idealize.ShloMosaic.Pointwise Cert.ReferenceIdeal Cert.ReferenceIdeal.Gen Cert.Spec

/-- The index column a gather reads: each word wrapped. -/
def wraps (x : IVec S320000 32) : IVec S320000x1 32 :=
  broadcastInDim S320000x1 ![0] bcast_S320000_S320000x1_0 (select (cmpi .slt x (broadcastInDim S320000 ![] bcast_S_S320000 (constantI S_ 32 0#32)))
    (addi x (broadcastInDim S320000 ![] bcast_S_S320000 (constantI S_ 32 10000#32))) x)

/-- The words as a column. -/
def column (x : IVec S320000 32) : IVec S320000x1 32 := broadcastInDim S320000x1 ![0] bcast_S320000_S320000x1_0 x

/-- A projection of the input, by head. -/
def heads (x : FVec Ideal S10000x128 .f32) (w : FVec Ideal S128x128 .f32) : FVec Ideal S10000x8x16 .f32 :=
  shapeCast _ (Host.dotGeneral dot_S10000x128_S128x128_S10000x128_1_0_0_1_n_n none x (transpose S128x128 [1, 0] w transposes_S128x128_S128x128_1_0)) shapeCasts_S10000x128_S10000x8x16

/-- The scaled scores of the edges. -/
def scores (k q : FVec Ideal S10000x8x16 .f32) (s d : IVec S320000 32) : FVec Ideal S320000x8 .f32 :=
  Host.divf (Host.reduceAdd (mulf (Host.gather gather_S10000x8x16_S320000x1_S320000x8x16_12_0_n_n_0_1_1816 k (wraps s))
    (Host.gather gather_S10000x8x16_S320000x1_S320000x8x16_12_0_n_n_0_1_1816 q (wraps d)))
    (constant S_ .f32 0x00000000#32) reducesTo_S320000x8x16_S320000x8_d2 h_S_) (broadcastInDim S320000x8 ![] bcast_S_S320000x8 (constant S_ .f32 0x40800000#32))

/-- The shifts: the maxima that are finite, zero for the others. -/
def shifts (p : FVec Ideal S10000x8 .f32) : FVec Ideal S10000x8 .f32 :=
  select (cmpf .olt (Host.absf p) (broadcastInDim S10000x8 ![] bcast_S_S10000x8 (constant S_ .f32 0x7F800000#32))) p
    (broadcastInDim S10000x8 ![] bcast_S_S10000x8 (id (constant S_ .f32 0x00000000#32)))

/-- The shifted exponentials of the edges. -/
def exps (x : FVec Ideal S320000x8 .f32) (z : FVec Ideal S10000x8 .f32) (d : IVec S320000 32) : FVec Ideal S320000x8 .f32 :=
  Host.exp (subf x (Host.gather gather_S10000x8_S320000x1_S320000x8_1_0_n_n_0_1_18 z (wraps d)))

/-- Each destination's sum of the edges' exponentials. -/
def totals (x : FVec Ideal S320000x8 .f32) (d : IVec S320000 32) : FVec Ideal S10000x8 .f32 :=
  Host.scatterAdd scatter_S10000x8_S320000x1_S320000x8_1_0_0_1 (broadcastInDim S10000x8 ![] bcast_S_S10000x8 (constant S_ .f32 0x00000000#32)) (column d) x

/-- The shares of the edges weighting their sources' values, summed per destination. -/
def shares (x : FVec Ideal S320000x8 .f32) (v : FVec Ideal S10000x8x16 .f32) (s d : IVec S320000 32) : FVec Ideal S10000x8x16 .f32 :=
  Host.scatterAdd scatter_S10000x8x16_S320000x1_S320000x8x16_12_0_0_1 (broadcastInDim S10000x8x16 ![] bcast_S_S10000x8x16 (constant S_ .f32 0x00000000#32))
    (column d) (mulf (broadcastInDim S320000x8x16 ![0, 1, 2] bcast_S320000x8x1_S320000x8x16_0_1_2 (broadcastInDim S320000x8x1 ![0, 1] bcast_S320000x8_S320000x8x1_0_1
      (Host.divf x (Host.gather gather_S10000x8_S320000x1_S320000x8_1_0_n_n_0_1_18 (totals x d) (wraps d)))))
      (Host.gather gather_S10000x8x16_S320000x1_S320000x8x16_12_0_n_n_0_1_1816 v (wraps s)))

/-- A wrapped word at an edge. -/
theorem wraps_apply (x : IVec S320000 32) (e : Fin 320000) (z : Fin 1) : wraps x (ix2 e z) = wrap (x (ix1 e)) := by
  unfold wrap
  pointwise [wraps]
  generalize x (ix1 e) = w
  unfold Scalar.select IntOp.cmpi IntOp.addi
  cases h : w.slt 0#32 <;> simp [h]

/-- A word of the column. -/
theorem column_apply (x : IVec S320000 32) (e : Fin 320000) (z : Fin 1) : column x (ix2 e z) = x (ix1 e) := by
  pointwise [column]

/-- A projection at a head and column. -/
theorem heads_apply (x : FVec Ideal S10000x128 .f32) (w : FVec Ideal S128x128 .f32) (n : Fin 10000) (t : Fin 8) (d : Fin 16) :
    heads x w (ix3 n t d) = project (fun n i => x (ix2 n i)) (fun j i => w (ix2 j i)) n (flat t d) := by
  unfold project flat
  pointwise [heads]

/-- A row of heads gathered at an edge. -/
theorem gather_heads (x : FVec Ideal S10000x8x16 .f32) (i : IVec S320000 32) (e : Fin 320000) (t : Fin 8) (d : Fin 16) :
    Host.gather gather_S10000x8x16_S320000x1_S320000x8x16_12_0_n_n_0_1_1816 x (wraps i) (ix3 e t d) = x (ix3 (node (i (ix1 e))) t d) := by
  rw [gather3 (by decide) _ rfl rfl rfl rfl rfl rfl rfl, wraps_apply]
  rfl

/-- A row of a per-head table gathered at an edge. -/
theorem gather_table (x : FVec Ideal S10000x8 .f32) (i : IVec S320000 32) (e : Fin 320000) (t : Fin 8) :
    Host.gather gather_S10000x8_S320000x1_S320000x8_1_0_n_n_0_1_18 x (wraps i) (ix2 e t) = x (ix2 (node (i (ix1 e))) t) := by
  rw [gather2 (by decide) _ rfl rfl rfl rfl rfl rfl rfl, wraps_apply]
  rfl

/-- A scaled score at an edge and head. -/
theorem scores_apply (k q : FVec Ideal S10000x8x16 .f32) (s d : IVec S320000 32) (e : Fin 320000) (t : Fin 8) :
    scores k q s d (ix2 e t) = Ideal.div (∑ c : Fin 16, k (ix3 (node (s (ix1 e))) t c) * q (ix3 (node (d (ix1 e))) t c)) (Ideal.ofBits .f32 0x40800000#32) := by
  simp only [← gather_heads]
  pointwise [scores]

/-- Every shift is real. -/
theorem shifts_real (p : FVec Ideal S10000x8 .f32) (n : Fin 10000) (t : Fin 8) : ∃ r : ℝ, shifts p (ix2 n t) = r := by
  have h : shifts p (ix2 n t) = if max (p (ix2 n t)) (-p (ix2 n t)) < Ideal.ofBits .f32 0x7F800000#32 then p (ix2 n t) else 0 := by
    pointwise [shifts]
    exact congrArg (fun z : EReal => if max (p (ix2 n t)) (-p (ix2 n t)) < Ideal.ofBits .f32 0x7F800000#32 then p (ix2 n t) else z) Ideal.ofBits_zero_f32
  rw [h, ofBits_top]
  generalize p (ix2 n t) = x
  by_cases hx : max x (-x) < ⊤
  · have h1 : x ≠ ⊤ := fun e => by simp [e] at hx
    have h2 : x ≠ ⊥ := fun e => by simp [e] at hx
    exact ⟨x.toReal, by rw [if_pos hx, EReal.coe_toReal h1 h2]⟩
  · exact ⟨0, by rw [if_neg hx, EReal.coe_zero]⟩

/-- A shifted exponential at an edge and head. -/
theorem exps_apply (x : FVec Ideal S320000x8 .f32) (z : FVec Ideal S10000x8 .f32) (d : IVec S320000 32) (e : Fin 320000) (t : Fin 8) :
    exps x z d (ix2 e t) = Ideal.exp (x (ix2 e t) - z (ix2 (node (d (ix1 e))) t)) := by
  rw [← gather_table z d e t]
  pointwise [exps]

/-- A destination's sum. -/
theorem totals_apply (x : FVec Ideal S320000x8 .f32) (d : IVec S320000 32) (n : Fin 10000) (t : Fin 8) :
    totals x d (ix2 n t) = ∑ e ∈ landing (fun e => d (ix1 e)) n, x (ix2 e t) := by
  unfold totals
  rw [scatter2 _ rfl rfl rfl rfl _ (fun i => by idx_vars i; pointwise)]
  simp only [column_apply]

/-- The weighted values at a node, head and column. -/
theorem shares_apply (x : FVec Ideal S320000x8 .f32) (v : FVec Ideal S10000x8x16 .f32) (s d : IVec S320000 32) (n : Fin 10000) (t : Fin 8) (c : Fin 16) :
    shares x v s d (ix3 n t c) = ∑ e ∈ landing (fun e => d (ix1 e)) n,
      Ideal.div (x (ix2 e t)) (∑ e' ∈ landing (fun e => d (ix1 e)) (node (d (ix1 e))), x (ix2 e' t)) * v (ix3 (node (s (ix1 e))) t c) := by
  unfold shares
  rw [scatter3 _ rfl rfl rfl rfl _ (fun i => by idx_vars i; pointwise)]
  simp only [column_apply]
  refine Finset.sum_congr rfl fun e _ => ?_
  rw [← totals_apply, ← gather_table (totals x d) d e t, ← gather_heads v s e t c]
  pointwise

end Cert.ReferenceIdeal.Value

end
-- ==== Proof.RefValue.lean ====
/-
  The reference's result, entry by entry, from its arguments.
-/
module

public import proofs.«01_k».proof.Proof.RefEdges

@[expose] public section

set_option maxRecDepth 16384

noncomputable section

namespace Cert.ReferenceIdeal.Value

open Idealize.ShloMosaic Idealize.ShloMosaic.StableHlo Idealize.ShloMosaic.Pointwise Cert.ReferenceIdeal Cert.ReferenceIdeal.Gen Cert.Spec

variable (V : Valuation τ sig (Elt Ideal))

/-- The source word of an edge. -/
theorem source_apply (e : Fin 320000) : (res_main_v1 V : S320000.Idx → BitVec 32) (ix1 e) = V (Proc.devRef .tc main_arg1) (ix2 0 e) := by
  pointwise [res_main_v1]

/-- The destination word of an edge. -/
theorem target_apply (e : Fin 320000) : (res_main_v3 V : S320000.Idx → BitVec 32) (ix1 e) = V (Proc.devRef .tc main_arg1) (ix2 1 e) := by
  pointwise [res_main_v3]

/-- The reference's scores over the arguments. -/
theorem v30_eq : res_main_v30 V = scores (heads (V (Proc.devRef .tc main_arg0)) (V (Proc.devRef .tc main_arg3)))
    (heads (V (Proc.devRef .tc main_arg0)) (V (Proc.devRef .tc main_arg2))) (res_main_v1 V) (res_main_v3 V) := rfl

/-- The reference's shifted exponentials over its scores and maxima. -/
theorem v53_eq : res_main_v53 V = exps (res_main_v30 V) (shifts (res_main_v40 V)) (res_main_v3 V) := rfl

/-- The reference's residual over its exponentials. -/
theorem v81_eq : res_main_v81 V = resids (V (Proc.devRef .tc main_arg0)) (shares (res_main_v53 V)
    (heads (V (Proc.devRef .tc main_arg0)) (V (Proc.devRef .tc main_arg4))) (res_main_v1 V) (res_main_v3 V)) (V (Proc.devRef .tc main_arg5)) := rfl

/-- The reference's first layer norm. -/
theorem v105_eq : res_main_v105 V = norms (res_main_v81 V) (V (Proc.devRef .tc main_arg6)) (V (Proc.devRef .tc main_arg7)) := rfl

/-- The reference's feed-forward part. -/
theorem v118_eq : res_main_v118 V = ffns (res_main_v105 V) (V (Proc.devRef .tc main_arg8)) (V (Proc.devRef .tc main_arg9))
    (V (Proc.devRef .tc main_arg10)) (V (Proc.devRef .tc main_arg11)) := rfl

/-- The reference's result array. -/
def result : FVec Ideal S10000x128 .f32 := norms (res_main_v118 V) (V (Proc.devRef .tc main_arg12)) (V (Proc.devRef .tc main_arg13))

/-- The reference's shifts. -/
def shiftAt (n : Fin 10000) (t : Fin 8) : EReal := shifts (res_main_v40 V) (ix2 n t)

/-- A shifted exponential over the arguments. -/
theorem v53_apply (e : Fin 320000) (t : Fin 8) : (res_main_v53 V : S320000x8.Idx → EReal) (ix2 e t)
    = shifted (project (fun n i => V (Proc.devRef .tc main_arg0) (ix2 n i)) (fun j i => V (Proc.devRef .tc main_arg3) (ix2 j i)))
        (project (fun n i => V (Proc.devRef .tc main_arg0) (ix2 n i)) (fun j i => V (Proc.devRef .tc main_arg2) (ix2 j i)))
        (fun e => V (Proc.devRef .tc main_arg1) (ix2 0 e)) (fun e => V (Proc.devRef .tc main_arg1) (ix2 1 e)) (shiftAt V) e t := by
  rw [v53_eq, exps_apply, v30_eq, scores_apply, source_apply, target_apply]
  simp only [heads_apply]
  rfl

/-- The reference's attention row. -/
theorem attention_apply (n : Fin 10000) (j : Fin 128) :
    shapeCast S10000x128 (shares (res_main_v53 V) (heads (V (Proc.devRef .tc main_arg0)) (V (Proc.devRef .tc main_arg4))) (res_main_v1 V) (res_main_v3 V))
        shapeCasts_S10000x8x16_S10000x128 (ix2 n j)
    = attendShifted (project (fun n i => V (Proc.devRef .tc main_arg0) (ix2 n i)) (fun j i => V (Proc.devRef .tc main_arg3) (ix2 j i)))
        (project (fun n i => V (Proc.devRef .tc main_arg0) (ix2 n i)) (fun j i => V (Proc.devRef .tc main_arg2) (ix2 j i)))
        (project (fun n i => V (Proc.devRef .tc main_arg0) (ix2 n i)) (fun j i => V (Proc.devRef .tc main_arg4) (ix2 j i)))
        (fun e => V (Proc.devRef .tc main_arg1) (ix2 0 e)) (fun e => V (Proc.devRef .tc main_arg1) (ix2 1 e)) (shiftAt V) n j := by
  obtain ⟨t, i, rfl⟩ : ∃ t i, j = flat t i := ⟨headOf j, inHead j, (flat_headOf j).symm⟩
  have h : ∀ x : FVec Ideal S10000x8x16 .f32, shapeCast S10000x128 x shapeCasts_S10000x8x16_S10000x128 (ix2 n (flat t i)) = x (ix3 n t i) := by
    intro x
    unfold flat
    pointwise
  have hd : (fun e : Fin 320000 => (res_main_v3 V : S320000.Idx → BitVec 32) (ix1 e)) = fun e => V (Proc.devRef .tc main_arg1) (ix2 1 e) :=
    funext fun e => target_apply V e
  rw [h, shares_apply, hd]
  unfold attendShifted
  rw [headOf_flat]
  refine Finset.sum_congr rfl fun e _ => ?_
  rw [v53_apply, heads_apply, source_apply, target_apply]
  exact congrArg₂ (fun x y : EReal => x * y) (congrArg (Ideal.div _) (Finset.sum_congr rfl fun e' _ => v53_apply V e' t)) rfl

/-- The reference's result at an entry. -/
theorem result_apply (n : Fin 10000) (j : Fin 128) :
    result V (ix2 n j)
      = layer (fun i => V (Proc.devRef .tc main_arg0) (ix2 n i))
          (attendShifted (project (fun n i => V (Proc.devRef .tc main_arg0) (ix2 n i)) (fun j i => V (Proc.devRef .tc main_arg3) (ix2 j i)))
            (project (fun n i => V (Proc.devRef .tc main_arg0) (ix2 n i)) (fun j i => V (Proc.devRef .tc main_arg2) (ix2 j i)))
            (project (fun n i => V (Proc.devRef .tc main_arg0) (ix2 n i)) (fun j i => V (Proc.devRef .tc main_arg4) (ix2 j i)))
            (fun e => V (Proc.devRef .tc main_arg1) (ix2 0 e)) (fun e => V (Proc.devRef .tc main_arg1) (ix2 1 e)) (shiftAt V) n)
          (fun p i => V (Proc.devRef .tc main_arg5) (ix2 p i)) (fun i => V (Proc.devRef .tc main_arg6) (ix1 i)) (fun i => V (Proc.devRef .tc main_arg7) (ix1 i))
          (fun k i => V (Proc.devRef .tc main_arg8) (ix2 k i)) (fun k => V (Proc.devRef .tc main_arg9) (ix1 k))
          (fun p k => V (Proc.devRef .tc main_arg10) (ix2 p k)) (fun i => V (Proc.devRef .tc main_arg11) (ix1 i))
          (fun i => V (Proc.devRef .tc main_arg12) (ix1 i)) (fun i => V (Proc.devRef .tc main_arg13) (ix1 i)) j := by
  unfold result layer
  rw [norms_apply, v118_eq]
  simp only [ffns_apply]
  rw [v105_eq]
  simp only [norms_apply]
  rw [v81_eq]
  simp only [resids_apply, attention_apply]

/-- The reference's run: its result array is `result` of the launch contents, and its arguments stay. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v142) = result (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  run (F := Ideal) m ρ

end Cert.ReferenceIdeal.Value

end
-- ==== Proof.Equation.lean ====
/-
  The equation: over finite inputs and finite query and key weights, the kernel program's result array is the
  reference's.
-/
module

public import proofs.«01_k».proof.Defs
public import proofs.«01_k».proof.Proof.KernelValue
public import proofs.«01_k».proof.Proof.RefValue

@[expose] public section

noncomputable section

namespace Cert.Equation

open Idealize.ShloMosaic Idealize.ShloMosaic.StableHlo Idealize.ShloMosaic.Pointwise Cert.Spec

/-- The predicate's program has the shape relations it states. -/
theorem preFacts : Cert.Pre_finite_scores.Facts := ⟨by decide, by decide⟩

/-- An extended real whose magnitude compares below plus infinity is real. -/
theorem real_of_abs {x : EReal} (h : max x (-x) < Ideal.ofBits .f32 0x7F800000#32) : ∃ r : ℝ, x = r := by
  rw [ofBits_top] at h
  have h1 : x ≠ ⊤ := fun e => by simp [e] at h
  have h2 : x ≠ ⊥ := fun e => by simp [e] at h
  exact ⟨x.toReal, (EReal.coe_toReal h1 h2).symm⟩

/-- A comparison bit that is one is a comparison that holds. -/
theorem lt_of_bit {x y : EReal} (h : Ideal.cmp .olt x y = 1#1) : x < y := by
  by_contra hn
  rw [show Ideal.cmp .olt x y = BitVec.ofBool (decide (x < y)) from rfl, decide_eq_false hn] at h
  exact absurd h (by decide)

/-- The precondition's three comparisons at their entries: the input and the query and key weights are real. -/
theorem real_args (m : (ℓ : Loc KernelIdeal.nD KernelIdeal.τ KernelIdeal.sig) → Buf (Elt Ideal) ℓ)
    (h : @Cert.Pre_KernelIdeal_finite_scores preFacts m) (c : Dev KernelIdeal.nD) :
    (∀ (n : Fin 10000) (i : Fin 128), ∃ r : ℝ, (m ((c.tc : Thread KernelIdeal.nD KernelIdeal.τ).loc KernelIdeal.main_arg0) : KernelIdeal.S10000x128.Idx → EReal) (ix2 n i) = (r : EReal))
      ∧ (∀ j i : Fin 128, ∃ r : ℝ, (m ((c.tc : Thread KernelIdeal.nD KernelIdeal.τ).loc KernelIdeal.main_arg2) : KernelIdeal.S128x128.Idx → EReal) (ix2 j i) = (r : EReal))
      ∧ (∀ j i : Fin 128, ∃ r : ℝ, (m ((c.tc : Thread KernelIdeal.nD KernelIdeal.τ).loc KernelIdeal.main_arg3) : KernelIdeal.S128x128.Idx → EReal) (ix2 j i) = (r : EReal)) :=
  ⟨fun n i => real_of_abs (lt_of_bit (congrFun (h c).1 (ix2 n i))),
    fun j i => real_of_abs (lt_of_bit (congrFun (h c).2.1 (ix2 j i))),
    fun j i => real_of_abs (lt_of_bit (congrFun (h c).2.2 (ix2 j i)))⟩

/-- The result arrays agree where the arguments do. -/
theorem results_eq (m : (ℓ : Loc KernelIdeal.nD KernelIdeal.τ KernelIdeal.sig) → Buf (Elt Ideal) ℓ) (ρ : Dev KernelIdeal.nD → PrngReg)
    (m' : (ℓ : Loc ReferenceIdeal.nD ReferenceIdeal.τ ReferenceIdeal.sig) → Buf (Elt Ideal) ℓ)
    (h : @Cert.Pre_KernelIdeal_finite_scores preFacts m) (c : Dev KernelIdeal.nD)
    (hargs : m' ((c.tc : Thread ReferenceIdeal.nD ReferenceIdeal.τ).loc ReferenceIdeal.main_arg0) = m ((c.tc : Thread KernelIdeal.nD KernelIdeal.τ).loc KernelIdeal.main_arg0) ∧ m' ((c.tc : Thread ReferenceIdeal.nD ReferenceIdeal.τ).loc ReferenceIdeal.main_arg1) = m ((c.tc : Thread KernelIdeal.nD KernelIdeal.τ).loc KernelIdeal.main_arg1) ∧ m' ((c.tc : Thread ReferenceIdeal.nD ReferenceIdeal.τ).loc ReferenceIdeal.main_arg2) = m ((c.tc : Thread KernelIdeal.nD KernelIdeal.τ).loc KernelIdeal.main_arg2) ∧ m' ((c.tc : Thread ReferenceIdeal.nD ReferenceIdeal.τ).loc ReferenceIdeal.main_arg3) = m ((c.tc : Thread KernelIdeal.nD KernelIdeal.τ).loc KernelIdeal.main_arg3) ∧ m' ((c.tc : Thread ReferenceIdeal.nD ReferenceIdeal.τ).loc ReferenceIdeal.main_arg4) = m ((c.tc : Thread KernelIdeal.nD KernelIdeal.τ).loc KernelIdeal.main_arg4) ∧ m' ((c.tc : Thread ReferenceIdeal.nD ReferenceIdeal.τ).loc ReferenceIdeal.main_arg5) = m ((c.tc : Thread KernelIdeal.nD KernelIdeal.τ).loc KernelIdeal.main_arg5) ∧ m' ((c.tc : Thread ReferenceIdeal.nD ReferenceIdeal.τ).loc ReferenceIdeal.main_arg6) = m ((c.tc : Thread KernelIdeal.nD KernelIdeal.τ).loc KernelIdeal.main_arg6) ∧ m' ((c.tc : Thread ReferenceIdeal.nD ReferenceIdeal.τ).loc ReferenceIdeal.main_arg7) = m ((c.tc : Thread KernelIdeal.nD KernelIdeal.τ).loc KernelIdeal.main_arg7) ∧ m' ((c.tc : Thread ReferenceIdeal.nD ReferenceIdeal.τ).loc ReferenceIdeal.main_arg8) = m ((c.tc : Thread KernelIdeal.nD KernelIdeal.τ).loc KernelIdeal.main_arg8) ∧ m' ((c.tc : Thread ReferenceIdeal.nD ReferenceIdeal.τ).loc ReferenceIdeal.main_arg9) = m ((c.tc : Thread KernelIdeal.nD KernelIdeal.τ).loc KernelIdeal.main_arg9) ∧ m' ((c.tc : Thread ReferenceIdeal.nD ReferenceIdeal.τ).loc ReferenceIdeal.main_arg10) = m ((c.tc : Thread KernelIdeal.nD KernelIdeal.τ).loc KernelIdeal.main_arg10) ∧ m' ((c.tc : Thread ReferenceIdeal.nD ReferenceIdeal.τ).loc ReferenceIdeal.main_arg11) = m ((c.tc : Thread KernelIdeal.nD KernelIdeal.τ).loc KernelIdeal.main_arg11) ∧ m' ((c.tc : Thread ReferenceIdeal.nD ReferenceIdeal.τ).loc ReferenceIdeal.main_arg12) = m ((c.tc : Thread KernelIdeal.nD KernelIdeal.τ).loc KernelIdeal.main_arg12) ∧ m' ((c.tc : Thread ReferenceIdeal.nD ReferenceIdeal.τ).loc ReferenceIdeal.main_arg13) = m ((c.tc : Thread KernelIdeal.nD KernelIdeal.τ).loc KernelIdeal.main_arg13)) :
    ReferenceIdeal.Value.result (launchContents m' c) = KernelIdeal.Gen.W4 m ρ c (Proc.devRef .tc KernelIdeal.main_v50) := by
  obtain ⟨h0, h1, h2, h3, h4, h5, h6, h7, h8, h9, h10, h11, h12, h13⟩ := hargs
  have e0 : launchContents m' c (Proc.devRef .tc ReferenceIdeal.main_arg0) = m ((c.tc : Thread KernelIdeal.nD KernelIdeal.τ).loc KernelIdeal.main_arg0) := h0
  have e1 : launchContents m' c (Proc.devRef .tc ReferenceIdeal.main_arg1) = m ((c.tc : Thread KernelIdeal.nD KernelIdeal.τ).loc KernelIdeal.main_arg1) := h1
  have e2 : launchContents m' c (Proc.devRef .tc ReferenceIdeal.main_arg2) = m ((c.tc : Thread KernelIdeal.nD KernelIdeal.τ).loc KernelIdeal.main_arg2) := h2
  have e3 : launchContents m' c (Proc.devRef .tc ReferenceIdeal.main_arg3) = m ((c.tc : Thread KernelIdeal.nD KernelIdeal.τ).loc KernelIdeal.main_arg3) := h3
  have e4 : launchContents m' c (Proc.devRef .tc ReferenceIdeal.main_arg4) = m ((c.tc : Thread KernelIdeal.nD KernelIdeal.τ).loc KernelIdeal.main_arg4) := h4
  have e5 : launchContents m' c (Proc.devRef .tc ReferenceIdeal.main_arg5) = m ((c.tc : Thread KernelIdeal.nD KernelIdeal.τ).loc KernelIdeal.main_arg5) := h5
  have e6 : launchContents m' c (Proc.devRef .tc ReferenceIdeal.main_arg6) = m ((c.tc : Thread KernelIdeal.nD KernelIdeal.τ).loc KernelIdeal.main_arg6) := h6
  have e7 : launchContents m' c (Proc.devRef .tc ReferenceIdeal.main_arg7) = m ((c.tc : Thread KernelIdeal.nD KernelIdeal.τ).loc KernelIdeal.main_arg7) := h7
  have e8 : launchContents m' c (Proc.devRef .tc ReferenceIdeal.main_arg8) = m ((c.tc : Thread KernelIdeal.nD KernelIdeal.τ).loc KernelIdeal.main_arg8) := h8
  have e9 : launchContents m' c (Proc.devRef .tc ReferenceIdeal.main_arg9) = m ((c.tc : Thread KernelIdeal.nD KernelIdeal.τ).loc KernelIdeal.main_arg9) := h9
  have e10 : launchContents m' c (Proc.devRef .tc ReferenceIdeal.main_arg10) = m ((c.tc : Thread KernelIdeal.nD KernelIdeal.τ).loc KernelIdeal.main_arg10) := h10
  have e11 : launchContents m' c (Proc.devRef .tc ReferenceIdeal.main_arg11) = m ((c.tc : Thread KernelIdeal.nD KernelIdeal.τ).loc KernelIdeal.main_arg11) := h11
  have e12 : launchContents m' c (Proc.devRef .tc ReferenceIdeal.main_arg12) = m ((c.tc : Thread KernelIdeal.nD KernelIdeal.τ).loc KernelIdeal.main_arg12) := h12
  have e13 : launchContents m' c (Proc.devRef .tc ReferenceIdeal.main_arg13) = m ((c.tc : Thread KernelIdeal.nD KernelIdeal.τ).loc KernelIdeal.main_arg13) := h13
  obtain ⟨r0, r2, r3⟩ := real_args m h c
  funext y
  obtain ⟨n, j, rfl⟩ : ∃ (n : Fin 10000) (j : Fin 128), y = ix2 n j := ⟨y 0, y 1, eq_ix2 y⟩
  refine (ReferenceIdeal.Value.result_apply (launchContents m' c) n j).trans ?_
  refine Eq.trans ?_ (KernelIdeal.Value.result_apply m ρ c n j).symm
  rw [e0, e1, e2, e3, e4, e5, e6, e7, e8, e9, e10, e11, e12, e13]
  refine congrFun (congrArg (fun a => layer _ a _ _ _ _ _ _ _ _ _) (funext fun i => ?_)) j
  exact attendShifted_eq _ _ _ (score_real (project_real r0 r3) (project_real r0 r2) _ _)
    (fun n t => ReferenceIdeal.Value.shifts_real _ n t) n i

end Cert.Equation

end
-- ==== Proof.lean ====
/-
  The proof of `Cert.Claim`: the three frames, the trivial `preserves`, and the equality of the kernel's and the
  reference's results over the extended reals under finite inputs and finite query and key weights.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelFrame
public import proofs.«01_k».proof.Proof.KernelIdealFrame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel program ends without fault, keeps its arguments and leaves every counter at zero. -/
theorem frameKernel : @Cert.quiescent_Kernel Cert.Kernel.Gen.facts := fun m ρ _ =>
  (θ_run (Cert.Kernel.defs (F := _)) _ _).mono (fun _ h => ⟨fun c => (h.1 c).2, h.2⟩) (Cert.Kernel.Gen.run m ρ)

/-- The same of the kernel program over the extended reals. -/
theorem frameKernelIdeal : @Cert.quiescent_KernelIdeal Cert.KernelIdeal.Gen.facts := fun m ρ _ =>
  (θ_run (Cert.KernelIdeal.defs (F := Ideal)) _ _).mono (fun _ h => ⟨fun c => (h.1 c).2, h.2⟩) (Cert.KernelIdeal.Gen.run m ρ)

/-- The same of the reference over the extended reals. -/
theorem frameReferenceIdeal : @Cert.quiescent_ReferenceIdeal Cert.ReferenceIdeal.Gen.facts := fun m ρ _ =>
  (θ_run (Cert.ReferenceIdeal.defs (F := Ideal)) _ _).mono (fun r h => ⟨fun c => (h c).2, sem_eq_zero_of_no_sems (by decide) r.2⟩)
    (Cert.ReferenceIdeal.Value.run_result m ρ)

/-- The kernel program and the reference leave the same result. -/
theorem equal : @Cert.algebraic_KernelIdeal_ReferenceIdeal_pre_finite_scores Cert.KernelIdeal.Gen.facts Cert.ReferenceIdeal.Gen.facts Cert.Equation.preFacts := by
  intro m g m' g' hp hargs
  refine ⟨fun c => Cert.KernelIdeal.Gen.W4 m g c (Proc.devRef .tc Cert.KernelIdeal.main_v50), ?_, ?_⟩
  · exact (θ_run (Cert.KernelIdeal.defs (F := Ideal)) _ _).mono (fun _ h c => h.1 c) (Cert.KernelIdeal.Gen.run m g)
  · exact (θ_run (Cert.ReferenceIdeal.defs (F := Ideal)) _ _).mono
      (fun _ h c => ⟨(h c).1.trans (Cert.Equation.results_eq m g m' hp c (hargs c)), (h c).2⟩) (Cert.ReferenceIdeal.Value.run_result m' g')

theorem claim : Cert.Claim := ⟨Cert.Kernel.Gen.facts, Cert.KernelIdeal.Gen.facts, Cert.ReferenceIdeal.Gen.facts, Cert.Equation.preFacts,
  frameKernel, frameKernelIdeal, fun m ρ _ => frameKernelIdeal m ρ trivial, frameReferenceIdeal, fun m ρ _ => frameReferenceIdeal m ρ trivial, trivial, equal⟩

end Cert.Proof

end
